-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x3072 : Shape := ⟨3, ![4, 4096, 3072]⟩
abbrev S4x4096x1 : Shape := ⟨3, ![4, 4096, 1]⟩
abbrev S3072x2048 : Shape := ⟨2, ![3072, 2048]⟩
abbrev S2048 : Shape := ⟨1, ![2048]⟩
abbrev S16384x3072 : Shape := ⟨2, ![16384, 3072]⟩
abbrev S4x1x4096 : Shape := ⟨3, ![4, 1, 4096]⟩
abbrev S1x2048 : Shape := ⟨2, ![1, 2048]⟩
abbrev S16384x2048 : Shape := ⟨2, ![16384, 2048]⟩
abbrev S4x16x4096 : Shape := ⟨3, ![4, 16, 4096]⟩
abbrev S512x3072 : Shape := ⟨2, ![512, 3072]⟩
abbrev S1x1x512 : Shape := ⟨3, ![1, 1, 512]⟩
abbrev S512x2048 : Shape := ⟨2, ![512, 2048]⟩
abbrev S1x16x512 : Shape := ⟨3, ![1, 16, 512]⟩
abbrev S512x128 : Shape := ⟨2, ![512, 128]⟩
abbrev S1x1x128 : Shape := ⟨3, ![1, 1, 128]⟩
abbrev S1x128 : Shape := ⟨2, ![1, 128]⟩
abbrev S128x128 : Shape := ⟨2, ![128, 128]⟩
abbrev S3072x256 : Shape := ⟨2, ![3072, 256]⟩
abbrev S512x256 : Shape := ⟨2, ![512, 256]⟩
abbrev S512 : Shape := ⟨1, ![512]⟩
abbrev S512x1 : Shape := ⟨2, ![512, 1]⟩
abbrev S16x128 : Shape := ⟨2, ![16, 128]⟩
abbrev S1x16x128 : Shape := ⟨3, ![1, 16, 128]⟩
abbrev S4x4096x2048 : Shape := ⟨3, ![4, 4096, 2048]⟩
abbrev S4x4096x16 : Shape := ⟨3, ![4, 4096, 16]⟩

abbrev nBuf : Space → Nat
  | .hbm => 14
  | .vmem => 13
  | .smem => 0
  | _ => 0

abbrev bufTy : (tb : Table) → Fin (tcTables nBuf tb) → BufTy
  | .hbm, ⟨0, _⟩ => ⟨S4x4096x3072, .fp8e4m3⟩
  | .hbm, ⟨1, _⟩ => ⟨S4x4096x1, .f32⟩
  | .hbm, ⟨2, _⟩ => ⟨S3072x2048, .fp8e4m3⟩
  | .hbm, ⟨3, _⟩ => ⟨S2048, .f32⟩
  | .hbm, ⟨4, _⟩ => ⟨S3072x2048, .fp8e4m3⟩
  | .hbm, ⟨5, _⟩ => ⟨S2048, .f32⟩
  | .hbm, ⟨6, _⟩ => ⟨S16384x3072, .fp8e4m3⟩
  | .hbm, ⟨7, _⟩ => ⟨S4x1x4096, .f32⟩
  | .hbm, ⟨8, _⟩ => ⟨S1x2048, .f32⟩
  | .hbm, ⟨9, _⟩ => ⟨S1x2048, .f32⟩
  | .hbm, ⟨10, _⟩ => ⟨S16384x2048, .fp8e4m3⟩
  | .hbm, ⟨11, _⟩ => ⟨S4x16x4096, .f32⟩
  | .hbm, ⟨12, _⟩ => ⟨S4x4096x2048, .fp8e4m3⟩
  | .hbm, ⟨13, _⟩ => ⟨S4x4096x16, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S1x1x512, .f32⟩
  | .local _ .vmem, ⟨3, _⟩ => ⟨S1x1x512, .f32⟩
  | .local _ .vmem, ⟨4, _⟩ => ⟨S3072x2048, .fp8e4m3⟩
  | .local _ .vmem, ⟨5, _⟩ => ⟨S1x2048, .f32⟩
  | .local _ .vmem, ⟨6, _⟩ => ⟨S3072x2048, .fp8e4m3⟩
  | .local _ .vmem, ⟨7, _⟩ => ⟨S1x2048, .f32⟩
  | .local _ .vmem, ⟨8, _⟩ => ⟨S512x2048, .fp8e4m3⟩
  | .local _ .vmem, ⟨9, _⟩ => ⟨S512x2048, .fp8e4m3⟩
  | .local _ .vmem, ⟨10, _⟩ => ⟨S1x16x512, .f32⟩
  | .local _ .vmem, ⟨11, _⟩ => ⟨S1x16x512, .f32⟩
  | .local _ .vmem, ⟨12, _⟩ => ⟨S512x128, .f32⟩
  | _, _ => ⟨S4x4096x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x4096x3072 : Shape := ⟨3, ![4, 4096, 3072]⟩
abbrev S4x4096x1 : Shape := ⟨3, ![4, 4096, 1]⟩
abbrev S3072x2048 : Shape := ⟨2, ![3072, 2048]⟩
abbrev S2048 : Shape := ⟨1, ![2048]⟩
abbrev S4x4096x2048 : Shape := ⟨3, ![4, 4096, 2048]⟩
abbrev S4x4096x16 : Shape := ⟨3, ![4, 4096, 16]⟩
abbrev S16384x3072 : Shape := ⟨2, ![16384, 3072]⟩
abbrev S16384x1 : Shape := ⟨2, ![16384, 1]⟩
abbrev S16384x2048 : Shape := ⟨2, ![16384, 2048]⟩
abbrev S1x2048 : Shape := ⟨2, ![1, 2048]⟩
abbrev S16384x16x128 : Shape := ⟨3, ![16384, 16, 128]⟩
abbrev S16384x16 : Shape := ⟨2, ![16384, 16]⟩
abbrev S16384x16x1 : Shape := ⟨3, ![16384, 16, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x3072, .fp8e4m3⟩
  | .hbm, ⟨1, _⟩ => ⟨S4x4096x1, .f32⟩
  | .hbm, ⟨2, _⟩ => ⟨S3072x2048, .fp8e4m3⟩
  | .hbm, ⟨3, _⟩ => ⟨S2048, .f32⟩
  | .hbm, ⟨4, _⟩ => ⟨S3072x2048, .fp8e4m3⟩
  | .hbm, ⟨5, _⟩ => ⟨S2048, .f32⟩
  | .hbm, ⟨6, _⟩ => ⟨S4x4096x2048, .fp8e4m3⟩
  | .hbm, ⟨7, _⟩ => ⟨S4x4096x16, .f32⟩
  | .local _ .vmem, ⟨0, _⟩ => ⟨S4x4096x3072, .fp8e4m3⟩
  | .local _ .vmem, ⟨1, _⟩ => ⟨S4x4096x1, .f32⟩
  | .local _ .vmem, ⟨2, _⟩ => ⟨S3072x2048, .fp8e4m3⟩
  | .local _ .vmem, ⟨3, _⟩ => ⟨S2048, .f32⟩
  | .local _ .vmem, ⟨4, _⟩ => ⟨S3072x2048, .fp8e4m3⟩
  | .local _ .vmem, ⟨5, _⟩ => ⟨S2048, .f32⟩
  | .local _ .vmem, ⟨6, _⟩ => ⟨S4x4096x2048, .fp8e4m3⟩
  | .local _ .vmem, ⟨7, _⟩ => ⟨S4x4096x16, .f32⟩
  | _, _ => ⟨S4x4096x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x4096x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4096x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
/- WHAT ONE BLOCK COMPUTES. The kernel's body handles sixteen groups of 128 columns in turn; here the work on one group is
   written once, for any group number, and the body's two result buffers are shown to be exactly these, group by group. -/
module

public import proofs.«01_k».proof.Proof.Gen.KernelIdeal.Frame

@[expose] public section

noncomputable section

namespace Cert.KernelIdeal.Block

open Cert.KernelIdeal Cert.KernelIdeal.Gen Idealize.ShloMosaic Idealize.ShloMosaic.TcCoe

variable {F : FTy → Type} [FloatOps F]

/-! ## The quantiser on the rows of one group -/

/-- Gate times sigmoid of gate, times up: one group's 128 columns before quantisation, from the two raw products `g`, `u`, the
    row scales `xs` and the two rows of column scales. -/
def hidden (g u xs : FVec F S512x128 .f32) (wg wu : Vec F S1x128 .f32) : FVec F S512x128 .f32 :=
  mulf (mulf (mulf (mulf g xs) (broadcastTo S512x128 (shapeCast S1x128 wg shapeCasts_S1x128_S1x128) broadcasts_S1x128_S512x128))
      (logistic (mulf (mulf g xs) (broadcastTo S512x128 (shapeCast S1x128 wg shapeCasts_S1x128_S1x128) broadcasts_S1x128_S512x128))))
    (mulf (mulf u xs) (broadcastTo S512x128 (shapeCast S1x128 wu shapeCasts_S1x128_S1x128) broadcasts_S1x128_S512x128))

/-- The largest magnitude of each row, times 1/448. -/
def peak (h : FVec F S512x128 .f32) : FVec F S512x1 .f32 :=
  mulf (shapeCast S512x1 (multiReduction .maximumf [1] S512 (absf h) 0xFF800000#32 reduces_S512x128_S512 (.inl rfl) rfl)
    shapeCasts_S512_S512x1) (broadcast S512x1 (Scalar.ofBits .f32 0x3B124925#32))

/-- One halving of the exponent field: keep the bit `b` if the float with that field does not exceed `y`. -/
def halve (y : FVec F S512x1 .f32) (b : BitVec 32) (f : IVec S512x1 32) : IVec S512x1 32 :=
  select (cmpf .oge y (bitcastToFloat .f32 (addi f (broadcast S512x1 b)))) (addi f (broadcast S512x1 b)) f

/-- The exponent field of `y`, bit by bit, with the field of the infinity from 2^120 on. -/
def field (y : FVec F S512x1 .f32) : IVec S512x1 32 :=
  select (cmpf .oge y (broadcast S512x1 (Scalar.ofBits .f32 0x7B800000#32))) (broadcast S512x1 2139095040#32)
    (halve y 8388608#32 (halve y 16777216#32 (halve y 33554432#32 (halve y 67108864#32 (halve y 134217728#32
      (halve y 268435456#32 (halve y 536870912#32 (halve y 1073741824#32 (broadcast S512x1 0#32)))))))))

/-- The exponent field with the two fields that are no exponent (0 and 255) replaced by 126. -/
def biased (y : FVec F S512x1 .f32) : IVec S512x1 32 :=
  select (ori (cmpi .eq (field y) (broadcast S512x1 0#32)) (cmpi .eq (field y) (broadcast S512x1 2139095040#32)))
    (broadcast S512x1 1056964608#32) (field y)

/-- The scale of each row: the power of two one above the exponent. -/
def scale (h : FVec F S512x128 .f32) : FVec F S512x1 .f32 :=
  bitcastToFloat .f32 (addi (biased (peak h)) (broadcast S512x1 8388608#32))

/-- The codes of each row: the row times the reciprocal scale, clipped to ±448. -/
def codes (h : FVec F S512x128 .f32) : FVec F S512x128 .fp8e4m3 :=
  truncf .fp8e4m3 (minimumf (broadcast S512x128 (Scalar.ofBits .f32 0x43E00000#32))
    (maximumf (broadcast S512x128 (Scalar.ofBits .f32 0xC3E00000#32))
      (mulf h (broadcastTo S512x128 (bitcastToFloat .f32 (subi (broadcast S512x1 2122317824#32) (biased (peak h))))
        broadcasts_S512x1_S512x128)))) bitsLt_fp8e4m3_f32

/-- Lane `k` of the scale table set to the scales `s`. -/
def put (lane : IVec S512x128 32) (k : BitVec 32) (s : FVec F S512x1 .f32) (acc : FVec F S512x128 .f32) : FVec F S512x128 .f32 :=
  select (cmpi .eq lane (broadcast S512x128 k)) (broadcastTo S512x128 (shapeCast S512x1 s shapeCasts_S512x1_S512x1)
    broadcasts_S512x1_S512x128) acc

section Buffers

variable (c : Dev nD) (arg2 : Memref sig .tc .vmem S512x3072 .fp8e4m3) (harg2 : arg2.IsWhole) (arg3 : Memref sig .tc .vmem S1x1x512 .f32) (harg3 : arg3.IsWhole) (arg4 : Memref sig .tc .vmem S3072x2048 .fp8e4m3) (harg4 : arg4.IsWhole) (arg5 : Memref sig .tc .vmem S1x2048 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S512x2048 .fp8e4m3) (harg8 : arg8.IsWhole) (arg9 : Memref sig .tc .vmem S1x16x512 .f32) (harg9 : arg9.IsWhole) (arg10 : Memref sig .tc .vmem S512x128 .f32) (harg10 : arg10.IsWhole)
    (x0 : Vec F S512x3072 .fp8e4m3) (x1 : Vec F S1x1x512 .f32) (x2 : Vec F S3072x2048 .fp8e4m3) (x3 : Vec F S1x2048 .f32) (x4 : Vec F S3072x2048 .fp8e4m3) (x5 : Vec F S1x2048 .f32)

/-- The tile of 256 columns that holds group `k` lies in the weight block. -/
theorem inbTile (k : Fin 16) : ∀ a, (![0, 256 * (k.val / 2)] : Fin 2 → Nat) a + S3072x256.size a ≤ S3072x2048.size a := by
  have := k.isLt
  intro a; fin_cases a
  · show 0 + 3072 ≤ 3072; omega
  · show 256 * (k.val / 2) + 256 ≤ 2048; omega
theorem inbHalf (k : Fin 16) : S512x256.Slices ![0, 128 * (k.val % 2)] S512x128 :=
  ⟨rfl, fun a => by
    fin_cases a
    · show 0 + 512 ≤ 512; omega
    · show 128 * (k.val % 2) + 128 ≤ 256; omega⟩
theorem inbRow (k : Fin 16) : ∀ a, (![0, 128 * k.val] : Fin 2 → Nat) a + S1x128.size a ≤ S1x2048.size a := by
  have := k.isLt
  intro a; fin_cases a
  · show 0 + 1 ≤ 1; omega
  · show 128 * k.val + 128 ≤ 2048; omega
theorem inbGroup (k : Fin 16) : ∀ a, (![0, 128 * k.val] : Fin 2 → Nat) a + S512x128.size a ≤ S512x2048.size a := by
  have := k.isLt
  intro a; fin_cases a
  · show 0 + 512 ≤ 512; omega
  · show 128 * k.val + 128 ≤ 2048; omega

/-- The 128 columns of group `k` of the product of the 512 rows in `arg2` with the weights in `w`: half of a 256-column product. -/
def product (w : Memref sig .tc .vmem S3072x2048 .fp8e4m3) (hw : w.IsWhole) (xw : Vec F S3072x2048 .fp8e4m3) (k : Fin 16) :
    FVec F S512x128 .f32 :=
  extractStridedSlice S512x128 ![0, 128 * (k.val % 2)]
    (matmul dot_S512x3072_S3072x256_S512x256_1_0_0_1_n_n none
      (shapeCast S512x3072 (View.readAt (Elt F) arg2.view (Rect.unit ![0, 0] S512x3072.size inb_S512x3072_S512x3072_0_0).toLoadRect (harg2.unread x0)) shapeCasts_S512x3072_S512x3072)
      (View.readAt (Elt F) w.view (Rect.unit (s := S3072x2048) ![0, 256 * (k.val / 2)] S3072x256.size (inbTile k)).toLoadRect (hw.unread xw))
      (constant S512x256 .f32 0x00000000#32)) (inbHalf k)

/-- The 128 column scales of group `k`. -/
def colScales (w : Memref sig .tc .vmem S1x2048 .f32) (hw : w.IsWhole) (xw : Vec F S1x2048 .f32) (k : Fin 16) : Vec F S1x128 .f32 :=
  View.readAt (Elt F) w.view (Rect.unit (s := S1x2048) ![0, 128 * k.val] S1x128.size (inbRow k)).toLoadRect (hw.unread xw)

/-- Group `k` before quantisation. -/
def group (k : Fin 16) : FVec F S512x128 .f32 :=
  hidden (product arg2 harg2 x0 arg4 harg4 x2 k) (product arg2 harg2 x0 arg6 harg6 x4 k)
    (kernelRun0_A.sl.v32 c arg3 harg3 arg10 x1) (colScales arg5 harg5 x3 k) (colScales arg7 harg7 x5 k)

/-- The store of group `k`'s codes. -/
def piece (k : Fin 16) : View.Piece (Elt F) S512x2048 .fp8e4m3 :=
  ⟨Rect.unit (s := S512x2048) ![0, 128 * k.val] ![512, 128] (inbGroup k),
    codes (group c arg2 harg2 arg3 harg3 arg4 harg4 arg5 harg5 arg6 harg6 arg7 harg7 arg10 x0 x1 x2 x3 x4 x5 k)⟩

set_option maxRecDepth 16384 in
/-- The body's stores into the codes' block are the sixteen groups', last first. -/
theorem pieces_codes (i : grid0.Coords) :
    (kernelRun0_A c i arg2 harg2 arg3 harg3 arg4 harg4 arg5 harg5 arg6 harg6 arg7 harg7 arg8 harg8 arg9 harg9 arg10 harg10 x0 x1 x2 x3 x4 x5).1
      = (List.finRange 16).reverse.map (piece c arg2 harg2 arg3 harg3 arg4 harg4 arg5 harg5 arg6 harg6 arg7 harg7 arg10 x0 x1 x2 x3 x4 x5) := by
  rfl

/-- The scale table after the first `n` groups: lane `k` holds group `k`'s scales, the other lanes zero. -/
def table : (n : Nat) → n ≤ 16 → FVec F S512x128 .f32
  | 0, _ => broadcast S512x128 (Scalar.ofBits .f32 0x00000000#32)
  | n + 1, h => put kernelRun0_A.sl.v33 (BitVec.ofNat 32 n)
      (scale (group c arg2 harg2 arg3 harg3 arg4 harg4 arg5 harg5 arg6 harg6 arg7 harg7 arg10 x0 x1 x2 x3 x4 x5 ⟨n, h⟩))
      (table n (Nat.le_of_succ_le h))

/-- 128 rows of the scales lie in the block of scales. -/
theorem inbScales (r : Fin 4) : ∀ a, (![0, 0, 128 * r.val] : Fin 3 → Nat) a + S1x16x128.size a ≤ S1x16x512.size a := by
  have := r.isLt
  intro a; fin_cases a
  · show 0 + 1 ≤ 1; omega
  · show 0 + 16 ≤ 16; omega
  · show 128 * r.val + 128 ≤ 512; omega
theorem inbQuarter (r : Fin 4) : S512x128.Slices ![128 * r.val, 0] S128x128 := by
  have := r.isLt
  exact ⟨rfl, fun a => by
    fin_cases a
    · show 128 * r.val + 128 ≤ 512; omega
    · show 0 + 128 ≤ 128; omega⟩

/-- The scales of the `r`-th 128 rows: their part of the table, turned. -/
def turned (r : Fin 4) : Vec F S1x16x128 .f32 :=
    shapeCast S1x16x128 (extractStridedSlice S16x128 ![0, 0] (transpose S128x128 [1, 0]
      (extractStridedSlice S128x128 ![128 * r.val, 0]
        (table c arg2 harg2 arg3 harg3 arg4 harg4 arg5 harg5 arg6 harg6 arg7 harg7 arg10 x0 x1 x2 x3 x4 x5 16 (Nat.le_refl 16)) (inbQuarter r))
      transposes_S128x128_p1_0_S128x128) slices_S128x128_o0_0_S16x128) shapeCasts_S16x128_S1x16x128

/-- The store of them. -/
def scalePiece (r : Fin 4) : View.Piece (Elt F) S1x16x512 .f32 :=
  ⟨Rect.unit (s := S1x16x512) ![0, 0, 128 * r.val] ![1, 16, 128] (inbScales r),
    turned c arg2 harg2 arg3 harg3 arg4 harg4 arg5 harg5 arg6 harg6 arg7 harg7 arg10 x0 x1 x2 x3 x4 x5 r⟩

set_option maxRecDepth 16384 in
/-- The body's stores into the scales' block are the four row quarters', last first. -/
theorem pieces_scales (i : grid0.Coords) :
    (kernelRun0_A c i arg2 harg2 arg3 harg3 arg4 harg4 arg5 harg5 arg6 harg6 arg7 harg7 arg8 harg8 arg9 harg9 arg10 harg10 x0 x1 x2 x3 x4 x5).2.1
      = (List.finRange 4).reverse.map (scalePiece c arg2 harg2 arg3 harg3 arg4 harg4 arg5 harg5 arg6 harg6 arg7 harg7 arg10 x0 x1 x2 x3 x4 x5) := by
  rfl

/-- 128 of the row scales lie in the block of row scales. -/
theorem inbLanes (r : Fin 4) : ∀ a, (![0, 0, 128 * r.val] : Fin 3 → Nat) a + S1x1x128.size a ≤ S1x1x512.size a := by
  have := r.isLt
  intro a; fin_cases a
  · show 0 + 1 ≤ 1; omega
  · show 0 + 1 ≤ 1; omega
  · show 128 * r.val + 128 ≤ 512; omega
theorem inbRows (r : Fin 4) : ∀ a, (![128 * r.val, 0] : Fin 2 → Nat) a + S128x128.size a ≤ S512x128.size a := by
  have := r.isLt
  intro a; fin_cases a
  · show 128 * r.val + 128 ≤ 512; omega
  · show 0 + 128 ≤ 128; omega

/-- The row scales of the `r`-th 128 rows: 128 entries of the scale row, copied down and turned. -/
def rowLanes (r : Fin 4) : Vec F S128x128 .f32 :=
    shapeCast S128x128 (transpose S128x128 [1, 0] (broadcastTo S128x128 (shapeCast S1x128 (shapeCast S1x128
      (View.readAt (Elt F) arg3.view (Rect.unit (s := S1x1x512) ![0, 0, 128 * r.val] S1x1x128.size (inbLanes r)).toLoadRect (harg3.unread x1))
      shapeCasts_S1x1x128_S1x128) shapeCasts_S1x128_S1x128) broadcasts_S1x128_S128x128) transposes_S128x128_p1_0_S128x128)
      shapeCasts_S128x128_S128x128

/-- The store of them. -/
def rowPiece (r : Fin 4) : View.Piece (Elt F) S512x128 .f32 :=
  ⟨Rect.unit (s := S512x128) ![128 * r.val, 0] ![128, 128] (inbRows r), rowLanes arg3 harg3 x1 r⟩

set_option maxRecDepth 16384 in
/-- The row scales as the body loads them back are read from those four stores. -/
theorem rowScales_eq :
    (kernelRun0_A.sl.v32 c arg3 harg3 arg10 x1 : Vec F S512x128 .f32)
      = arg10.view.readCov ((List.finRange 4).reverse.map (rowPiece arg3 harg3 x1))
          (Rect.unit (s := S512x128) ![0, 0] S512x128.size inb_S512x128_S512x128_0_0).toLoadRect := by
  rfl

end Buffers

end Cert.KernelIdeal.Block

end
-- ==== Proof.Exponent.lean ====
/- THE EXPONENT OF A NUMBER, TWO WAYS. The kernel finds the exponent field of `y` by halving its eight bits; the reference takes
   `⌊log y / log 2⌋`. Here: what the halving finds, for every extended real `y`, and that the two give the same power of two as scale
   and the same reciprocal of it. -/
module

public import Idealize.ShloMosaic.PureOps.Ideal

@[expose] public section

noncomputable section

namespace Cert.Exponent

open Idealize.ShloMosaic

/-! ## The floats whose significand is 1 -/

/-- The word with exponent field `E` and nothing else. -/
def word (E : ℕ) : BitVec 32 := BitVec.ofNat 32 (8388608 * E)

/-- The pattern with exponent field `E` and zero fraction, as a number. -/
theorem toNat_word {E : ℕ} (h : E < 512) : (word E).toNat = 8388608 * E := by
  unfold word; rw [BitVec.toNat_ofNat, Nat.mod_eq_of_lt (by omega)]

/-- Words add as their fields do. -/
theorem word_add (E b : ℕ) : word E + word b = word (E + b) := by
  unfold word; rw [← BitVec.ofNat_add, Nat.mul_add]

/-- The number that word denotes. -/
def pow (E : ℕ) : EReal := Ideal.ofBits .f32 (word E)

/-- The number that such a pattern stands for. -/
theorem pow_eq {E : ℕ} (hE : E < 256) :
    pow E = if E = 255 then ⊤ else if E = 0 then 0 else (((2 : ℝ) ^ ((E : ℤ) - 127) : ℝ) : EReal) := by
  have hw := toNat_word (E := E) (by omega)
  have hx : ((word E).extractLsb' 23 8).toNat = E := by
    rw [BitVec.extractLsb'_toNat, hw, Nat.shiftRight_eq_div_pow]; omega
  have hf : ((word E).extractLsb' 0 23).toNat = 0 := by
    rw [BitVec.extractLsb'_toNat, hw, Nat.shiftRight_eq_div_pow]; omega
  have hs : ((word E).extractLsb' 31 1).toNat = 0 := by
    rw [BitVec.extractLsb'_toNat, hw, Nat.shiftRight_eq_div_pow]; omega
  have hn : ((word E).extractLsb' (8 + 23) 1 == 1#1) = false := by
    rw [beq_eq_false_iff_ne]
    intro h
    have := congrArg BitVec.toNat h
    rw [hs] at this
    exact absurd this (by decide)
  unfold pow Ideal.ofBits Ideal.ieee
  simp only [hx, hf, hn]
  by_cases h1 : E = 255
  · rw [if_pos h1, if_pos (by rw [h1]; norm_num)]; rfl
  · rw [if_neg h1, if_neg (by norm_num; exact h1)]
    by_cases h0 : E = 0
    · rw [if_pos h0, if_pos h0]; simp
    · rw [if_neg h0, if_neg h0]
      congr 1
      have e : ((E : ℤ) - 127) = 23 + ((E : ℤ) - 127 - 23) := by ring
      rw [e, zpow_add₀ (by norm_num : (2 : ℝ) ≠ 0)]
      norm_num

/-- For a field that is neither 0 nor 255 it is a power of two. -/
theorem pow_mid {E : ℕ} (h0 : E ≠ 0) (h1 : E < 255) : pow E = (((2 : ℝ) ^ ((E : ℤ) - 127) : ℝ) : EReal) := by
  rw [pow_eq (by omega), if_neg (by omega), if_neg h0]

/-- A larger field is a larger number. -/
theorem pow_mono {E E' : ℕ} (h : E ≤ E') (hE : E' < 256) : pow E ≤ pow E' := by
  by_cases h1 : E' = 255
  · rw [pow_eq hE, if_pos h1]; exact le_top
  · by_cases h0 : E = 0
    · rw [pow_eq (by omega), if_neg (by omega), if_pos h0]
      by_cases h0' : E' = 0
      · rw [pow_eq hE, if_neg h1, if_pos h0']
      · rw [pow_mid h0' (by omega)]; exact EReal.coe_nonneg.mpr (zpow_pos (by norm_num : (0 : ℝ) < 2) _).le
    · rw [pow_mid h0 (by omega), pow_mid (by omega) (by omega)]
      exact EReal.coe_le_coe_iff.mpr (zpow_le_zpow_right₀ (by norm_num : (1 : ℝ) ≤ 2) (by omega))

/-! ## The halving -/

/-- One step of the halving. -/
def halve (y : EReal) (b : BitVec 32) (f : BitVec 32) : BitVec 32 :=
  Scalar.select (FloatOps.cmpf (F := Ideal) (φ := .f32) .oge y (FloatOps.ofBits .f32 (IntOp.addi f b))) (IntOp.addi f b) f

/-- The field found, with the infinity's from 2^120 on. -/
def field (y : EReal) : BitVec 32 :=
  Scalar.select (FloatOps.cmpf (F := Ideal) (φ := .f32) .oge y (Scalar.ofBits .f32 0x7B800000#32)) 2139095040#32
    (halve y 8388608#32 (halve y 16777216#32 (halve y 33554432#32 (halve y 67108864#32 (halve y 134217728#32
      (halve y 268435456#32 (halve y 536870912#32 (halve y 1073741824#32 0#32))))))))

/-- The field with the two that are no exponent replaced by 126. -/
def biased (y : EReal) : BitVec 32 :=
  Scalar.select (IntOp.ori (IntOp.cmpi .eq (field y) 0#32) (IntOp.cmpi .eq (field y) 2139095040#32)) 1056964608#32 (field y)

/-- The kernel's scale and its reciprocal. -/
def scale (y : EReal) : EReal := FloatOps.ofBits (F := Ideal) .f32 (IntOp.addi (biased y) 8388608#32)
def inverse (y : EReal) : EReal := FloatOps.ofBits (F := Ideal) .f32 (IntOp.subi 2122317824#32 (biased y))

/-- The reference's exponent: 0 where `y` is below the normal numbers or at 2^120 and beyond, else one above `⌊log₂ y⌋`. -/
def refExp (y : EReal) : EReal :=
  Scalar.select (IntOp.ori (FloatOps.cmpf (F := Ideal) (φ := .f32) .olt y (Scalar.ofBits .f32 0x00800000#32))
      (FloatOps.cmpf (F := Ideal) (φ := .f32) .oge y (Scalar.ofBits .f32 0x7B800000#32)))
    (Scalar.ofBits (F := Ideal) .f32 0x00000000#32)
    (FloatOps.addf (F := Ideal) (φ := .f32) (FloatOps.floor (F := Ideal) (φ := .f32) (FloatOps.divf (F := Ideal) (φ := .f32)
      (FloatOps.log (F := Ideal) (φ := .f32) y) (FloatOps.log (F := Ideal) (φ := .f32) (Scalar.ofBits .f32 0x40000000#32))))
      (Scalar.ofBits .f32 0x3F800000#32))

/-- A selection on `y ≤ x` is an if. -/
theorem select_oge {α : Type} (x y : EReal) (a b : α) :
    Scalar.select (FloatOps.cmpf (F := Ideal) (φ := .f32) .oge x y) a b = if y ≤ x then a else b := by
  show (if BitVec.ofBool (decide (y ≤ x)) = 1#1 then a else b) = _
  by_cases h : y ≤ x <;> simp [h]

/-- `n` is the exponent field of `y`: exactly the fields up to `n` denote numbers not above `y`. -/
def IsField (y : EReal) (n : ℕ) : Prop := ∀ E : ℕ, 1 ≤ E → E ≤ 255 → (pow E ≤ y ↔ E ≤ n)

/-- One step finds one more bit of the field. -/
theorem halve_word {y : EReal} {n E b : ℕ} (hn : IsField y n) (hb : 0 < b) (hEb : E + b < 256) (h1 : E ≤ n) (h2 : n < E + 2 * b) :
    ∃ E' : ℕ, halve y (word b) (word E) = word E' ∧ E' ≤ n ∧ n < E' + b ∧ E' + b ≤ E + 2 * b := by
  have ha : IntOp.addi (word E) (word b) = word (E + b) := word_add E b
  have hp : FloatOps.ofBits (F := Ideal) .f32 (word (E + b)) = pow (E + b) := rfl
  unfold halve
  rw [ha, select_oge, hp]
  have := hn (E + b) (by omega) (by omega)
  by_cases h : pow (E + b) ≤ y
  · exact ⟨E + b, if_pos h, this.mp h, by omega, by omega⟩
  · exact ⟨E, if_neg h, h1, by have := mt this.mpr h; omega, by omega⟩

/-- The eight steps find the field, if there is one below 256. -/
theorem field_eq {y : EReal} {n : ℕ} (hn : IsField y n) (h : n < 256) :
    field y = if pow 247 ≤ y then word 255 else word n := by
  obtain ⟨E1, e1, a1, b1, c1⟩ := halve_word (E := 0) (b := 128) hn (by omega) (by omega) (by omega) (by omega)
  obtain ⟨E2, e2, a2, b2, c2⟩ := halve_word (E := E1) (b := 64) hn (by omega) (by omega) a1 (by omega)
  obtain ⟨E3, e3, a3, b3, c3⟩ := halve_word (E := E2) (b := 32) hn (by omega) (by omega) a2 (by omega)
  obtain ⟨E4, e4, a4, b4, c4⟩ := halve_word (E := E3) (b := 16) hn (by omega) (by omega) a3 (by omega)
  obtain ⟨E5, e5, a5, b5, c5⟩ := halve_word (E := E4) (b := 8) hn (by omega) (by omega) a4 (by omega)
  obtain ⟨E6, e6, a6, b6, c6⟩ := halve_word (E := E5) (b := 4) hn (by omega) (by omega) a5 (by omega)
  obtain ⟨E7, e7, a7, b7, c7⟩ := halve_word (E := E6) (b := 2) hn (by omega) (by omega) a6 (by omega)
  obtain ⟨E8, e8, a8, b8, c8⟩ := halve_word (E := E7) (b := 1) hn (by omega) (by omega) a7 (by omega)
  have : E8 = n := by omega
  subst this
  unfold field
  rw [select_oge, show Scalar.ofBits (F := Ideal) .f32 0x7B800000#32 = pow 247 from rfl,
    show (2139095040#32 : BitVec 32) = word 255 from rfl]
  have e0 : (0#32 : BitVec 32) = word 0 := rfl
  rw [e0, show (1073741824#32 : BitVec 32) = word 128 from rfl, e1,
    show (536870912#32 : BitVec 32) = word 64 from rfl, e2,
    show (268435456#32 : BitVec 32) = word 32 from rfl, e3,
    show (134217728#32 : BitVec 32) = word 16 from rfl, e4,
    show (67108864#32 : BitVec 32) = word 8 from rfl, e5,
    show (33554432#32 : BitVec 32) = word 4 from rfl, e6,
    show (16777216#32 : BitVec 32) = word 2 from rfl, e7,
    show (8388608#32 : BitVec 32) = word 1 from rfl, e8]

/-- The replacement of the two fields that are no exponent. -/
theorem biased_eq {y : EReal} {n : ℕ} (hf : field y = word n) (h : n < 256) :
    biased y = if n = 0 ∨ n = 255 then word 126 else word n := by
  unfold biased
  rw [hf]
  by_cases h0 : n = 0
  · subst h0; rfl
  · by_cases h1 : n = 255
    · subst h1; rfl
    · have w : ∀ E : ℕ, E < 256 → n ≠ E → (word n == word E) = false := by
        intro E hE hne
        rw [beq_eq_false_iff_ne]
        intro hw
        have := congrArg BitVec.toNat hw
        rw [toNat_word (by omega), toNat_word (by omega)] at this
        omega
      rw [if_neg (by omega), show (0#32 : BitVec 32) = word 0 from rfl, show (2139095040#32 : BitVec 32) = word 255 from rfl]
      unfold IntOp.cmpi
      simp only [w 0 (by omega) h0, w 255 (by omega) h1]
      rfl

/-- Scale and reciprocal of a number whose replaced field is `n`. -/
theorem scale_eq {y : EReal} {n : ℕ} (hb : biased y = word n) (h0 : 0 < n) (h : n < 253) :
    scale y = (((2 : ℝ) ^ ((n : ℤ) - 126) : ℝ) : EReal) ∧ inverse y = (((2 : ℝ) ^ (126 - (n : ℤ)) : ℝ) : EReal) := by
  constructor
  · have : IntOp.addi (word n) 8388608#32 = word (n + 1) := word_add n 1
    unfold scale
    rw [hb, this]
    refine (pow_mid (E := n + 1) (by omega) (by omega)).trans ?_
    congr 2; omega
  · have : IntOp.subi 2122317824#32 (word n) = word (253 - n) := by
      rw [show (2122317824#32 : BitVec 32) = word 253 from rfl]
      unfold IntOp.subi
      apply BitVec.eq_of_toNat_eq
      rw [BitVec.toNat_sub, toNat_word (by omega), toNat_word (by omega), toNat_word (by omega)]
      omega
    unfold inverse
    rw [hb, this]
    refine (pow_mid (E := 253 - n) (by omega) (by omega)).trans ?_
    congr 2; omega

/-! ## The two ways agree -/

/-- The power of two of a real number. -/
theorem exp2_coe (r : ℝ) : Ideal.exp2 (r : EReal) = (Real.rpow 2 r : EReal) := rfl

/-- The plain exponent: zero in the two exceptional ranges, else the floor of the binary logarithm plus one. -/
theorem refExp_eq (y : EReal) :
    refExp y = if y < pow 1 ∨ pow 247 ≤ y then 0 else
      Ideal.liftRound Int.floor (Ideal.div (Ideal.log y) ((Real.log 2 : ℝ) : EReal)) + 1 := by
  have h0 : Scalar.ofBits (F := Ideal) .f32 0x00000000#32 = (0 : EReal) := by
    show Ideal.ofBits .f32 0x00000000#32 = 0
    simp [Ideal.ofBits, Ideal.ieee]
  have h1 : Scalar.ofBits (F := Ideal) .f32 0x3F800000#32 = (1 : EReal) := by
    show pow 127 = 1
    rw [pow_mid (by omega) (by omega)]; norm_num
  have h2 : Scalar.ofBits (F := Ideal) .f32 0x40000000#32 = ((2 : ℝ) : EReal) := by
    show pow 128 = _
    rw [pow_mid (by omega) (by omega)]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  unfold refExp
  rw [h0, h1, h2]
  show Scalar.select (BitVec.ofBool (decide (y < pow 1)) ||| BitVec.ofBool (decide (pow 247 ≤ y))) (0 : EReal)
    (Ideal.liftRound Int.floor (Ideal.div (Ideal.log y) (Ideal.log ((2 : ℝ) : EReal))) + 1) = _
  rw [hl]
  by_cases a : y < pow 1 <;> by_cases b : pow 247 ≤ y <;> simp [a, b, Scalar.select]

/-- For every extended real the kernel's scale is two to the reference's exponent, and its reciprocal two to minus that. -/
theorem scale_agree (y : EReal) :
    scale y = Ideal.exp2 (refExp y) ∧ inverse y = Ideal.exp2 (Scalar.ofBits (F := Ideal) .f32 0x00000000#32 - refExp y) := by
  have h0 : Scalar.ofBits (F := Ideal) .f32 0x00000000#32 = (0 : EReal) := by
    show Ideal.ofBits .f32 0x00000000#32 = 0
    simp [Ideal.ofBits, Ideal.ieee]
  rw [h0, zero_sub]
  by_cases hlo : y < pow 1
  · have hn : IsField y 0 := fun E h1 h2 => by
      refine ⟨fun h => absurd (lt_of_lt_of_le hlo ((pow_mono h1 (by omega)).trans h)) (lt_irrefl _), fun h => by omega⟩
    have hf : field y = word 0 := by
      rw [field_eq hn (by omega), if_neg]
      exact fun h => absurd (lt_of_lt_of_le hlo ((pow_mono (by omega) (by omega)).trans h)) (lt_irrefl _)
    have hb := biased_eq hf (by omega)
    rw [if_pos (Or.inl rfl)] at hb
    obtain ⟨s, i⟩ := scale_eq hb (by omega) (by omega)
    rw [refExp_eq, if_pos (Or.inl hlo), s, i, neg_zero, ← EReal.coe_zero, exp2_coe]
    norm_num
  · by_cases hhi : pow 247 ≤ y
    · have hb : biased y = word 126 := by
        have hf : field y = word 255 := by
          unfold field
          rw [select_oge]
          exact if_pos hhi
        have hb := biased_eq hf (by omega)
        rwa [if_pos (Or.inr rfl)] at hb
      obtain ⟨s, i⟩ := scale_eq hb (by omega) (by omega)
      rw [refExp_eq, if_pos (Or.inr hhi), s, i, neg_zero, ← EReal.coe_zero, exp2_coe]
      norm_num
    · rw [refExp_eq, if_neg (by tauto)]
      rw [not_lt] at hlo
      rw [not_le] at hhi
      rw [pow_mid (by omega) (by omega)] at hlo hhi
      induction y with
      | bot => exact absurd hlo (by simp)
      | top => exact absurd hhi (by simp)
      | coe r =>
        have hlo' : (2 : ℝ) ^ ((1 : ℤ) - 127) ≤ r := by exact_mod_cast hlo
        have hhi' : r < (2 : ℝ) ^ ((247 : ℤ) - 127) := by exact_mod_cast hhi
        have hr : 0 < r := lt_of_lt_of_le (zpow_pos (by norm_num) _) hlo'
        set q : ℤ := ⌊Real.log r / Real.log 2⌋ with hq
        have key : ∀ z : ℤ, (2 : ℝ) ^ z ≤ r ↔ z ≤ q := by
          intro z
          rw [hq, Int.le_floor, le_div_iff₀ (Real.log_pos (by norm_num)), ← Real.log_zpow,
            Real.log_le_log_iff (zpow_pos (by norm_num) _) hr]
        have q1 : (1 : ℤ) - 127 ≤ q := (key _).mp hlo'
        have q2 : q < (247 : ℤ) - 127 := not_le.mp (fun h => absurd ((key _).mpr h) (not_le.mpr hhi'))
        obtain ⟨n, hn⟩ : ∃ n : ℕ, q = (n : ℤ) - 127 := ⟨(q + 127).toNat, by omega⟩
        have hnf : IsField (r : EReal) n := fun E h1 h2 => by
          by_cases hE : E = 255
          · rw [pow_eq (by omega), if_pos hE]
            exact ⟨fun h => absurd h (by simp), fun h => by omega⟩
          · rw [pow_mid (by omega) (by omega), EReal.coe_le_coe_iff, key]
            omega
        have hf : field (r : EReal) = word n := by
          rw [field_eq hnf (by omega), if_neg]
          rw [hnf 247 (by omega) (by omega)]
          omega
        have hb := biased_eq hf (by omega)
        rw [if_neg (by omega)] at hb
        obtain ⟨s, i⟩ := scale_eq hb (by omega) (by omega)
        have hlog : Ideal.log (r : EReal) = ((Real.log r : ℝ) : EReal) := by
          show (if r ≤ 0 then (⊥ : EReal) else ((Real.log r : ℝ) : EReal)) = _
          rw [if_neg (not_le.mpr hr)]
        have hdiv : Ideal.div ((Real.log r : ℝ) : EReal) ((Real.log 2 : ℝ) : EReal) = ((Real.log r / Real.log 2 : ℝ) : EReal) := by
          have h2 : Real.log 2 ≠ 0 := (Real.log_pos (by norm_num)).ne'
          unfold Ideal.div
          rw [if_neg (by exact_mod_cast h2), ← EReal.coe_inv, ← EReal.coe_mul, div_eq_mul_inv]
        have hfl : Ideal.liftRound Int.floor ((Real.log r / Real.log 2 : ℝ) : EReal) = (((q : ℤ) : ℝ) : EReal) := rfl
        have e : (((q : ℤ) : ℝ) : EReal) + 1 = ((((n : ℤ) - 126 : ℤ) : ℝ) : EReal) := by
          rw [← EReal.coe_one, ← EReal.coe_add, hn]
          congr 1; push_cast; ring
        rw [hlog, hdiv, hfl, e, s, i, ← EReal.coe_neg, exp2_coe, exp2_coe]
        constructor
        · congr 1
          exact (Real.rpow_intCast 2 _).symm
        · congr 1
          rw [← Int.cast_neg]
          refine Eq.trans ?_ (Real.rpow_intCast 2 _).symm
          congr 1; ring

end Cert.Exponent

end
-- ==== Proof.Spec.lean ====
/- THE LAYER, WRITTEN OUT. One row of the SwiGLU front end, one group of 128 of its columns, and what quantising that group gives,
   over the extended reals: both programs are read to these functions. -/
module

public import proofs.«01_k».proof.Proof.Exponent
public import Idealize.ShloMosaic.Lib.ValueIdxCore

@[expose] public section

noncomputable section

namespace Cert.Spec

open Idealize.ShloMosaic Idealize.ShloMosaic.ValueIdx

/-- Gate times sigmoid of gate, times up, where gate and up are the two products with their row and column scales. -/
def gated (g u xs wg wu : EReal) : EReal := g * xs * wg * Ideal.logistic (g * xs * wg) * (u * xs * wu)

/-- One entry of the hidden row: from the row of codes `x` and its scale, the two weight matrices and their column scales. -/
def hidden (x : Fin 3072 → EReal) (xs : EReal) (wg wu : Fin 3072 → Fin 2048 → EReal) (wgs wus : Fin 2048 → EReal) (f : Fin 2048) :
    EReal :=
  gated (∑ d, x d * wg d f) (∑ d, x d * wu d f) xs (wgs f) (wus f)

/-- Column `l` of group `k`. -/
def column (k : Fin 16) (l : Fin 128) : Fin 2048 := ⟨128 * k.val + l.val, by have := k.isLt; have := l.isLt; omega⟩

/-- The group a column is in. -/
def groupOf (f : Fin 2048) : Fin 16 := ⟨f.val / 128, by have := f.isLt; omega⟩

/-- Its place in that group. -/
def laneOf (f : Fin 2048) : Fin 128 := ⟨f.val % 128, Nat.mod_lt _ (by omega)⟩

/-- The group of column `l` of group `k` is `k`. -/
theorem groupOf_column (k : Fin 16) (l : Fin 128) : groupOf (column k l) = k :=
  Fin.ext (by show (128 * k.val + l.val) / 128 = k.val; have := l.isLt; omega)

/-- And its place is `l`. -/
theorem laneOf_column (k : Fin 16) (l : Fin 128) : laneOf (column k l) = l :=
  Fin.ext (by show (128 * k.val + l.val) % 128 = l.val; have := l.isLt; omega)

/-- The largest magnitude in a group, times 1/448. -/
def peak (h : Fin 128 → EReal) : EReal :=
  Finset.univ.fold max (Ideal.ofBits .f32 0xFF800000#32) (fun l => max (h l) (-(h l))) * Ideal.ofBits .f32 0x3B124925#32

/-- The scale of a group, a power of two. -/
def scale (h : Fin 128 → EReal) : EReal := Exponent.scale (peak h)

/-- A number clipped to ±448. -/
def clip (v : EReal) : EReal := min (Ideal.ofBits .f32 0x43E00000#32) (max (Ideal.ofBits .f32 0xC3E00000#32) v)

/-- The code of one entry of a group. -/
def code (h : Fin 128 → EReal) (l : Fin 128) : EReal := clip (h l * Exponent.inverse (peak h))

/-- The codes of a hidden row. -/
def codes (h : Fin 2048 → EReal) (f : Fin 2048) : EReal := code (fun l => h (column (groupOf f) l)) (laneOf f)

/-- The scales of a hidden row. -/
def scales (h : Fin 2048 → EReal) (k : Fin 16) : EReal := scale (fun l => h (column k l))

/-! ## The whole layer -/

section Layer

variable (a0 : Vec Ideal ⟨3, ![4, 4096, 3072]⟩ .fp8e4m3) (a1 : Vec Ideal ⟨3, ![4, 4096, 1]⟩ .f32) (a2 : Vec Ideal ⟨2, ![3072, 2048]⟩ .fp8e4m3)
  (a3 : Vec Ideal ⟨1, ![2048]⟩ .f32) (a4 : Vec Ideal ⟨2, ![3072, 2048]⟩ .fp8e4m3) (a5 : Vec Ideal ⟨1, ![2048]⟩ .f32)

/-- The hidden row of token `s` of batch `b`. -/
def layerRow (b : Fin 4) (s : Fin 4096) : Fin 2048 → EReal :=
  hidden (fun d => a0 (ix3 b s d)) (a1 (ix3 b s 0)) (fun d f => a2 (ix2 d f)) (fun d f => a4 (ix2 d f)) (fun f => a3 (ix1 f))
    (fun f => a5 (ix1 f))

/-- The codes of every token. -/
def layerCodes : Vec Ideal ⟨3, ![4, 4096, 2048]⟩ .fp8e4m3 := fun y => codes (layerRow a0 a1 a2 a3 a4 a5 (y 0) (y 1)) (y 2)

/-- The scales of every token. -/
def layerScales : Vec Ideal ⟨3, ![4, 4096, 16]⟩ .f32 := fun y => scales (layerRow a0 a1 a2 a3 a4 a5 (y 0) (y 1)) (y 2)

end Layer

end Cert.Spec

end
-- ==== Proof.BlockValue.lean ====
/- WHAT ONE BLOCK'S ENTRIES ARE. The body's two result buffers, entry by entry, over the extended reals: the codes and the scales of
   the hidden row that each of the 512 rows gives. -/
module

public import proofs.«01_k».proof.Proof.Block
public import proofs.«01_k».proof.Proof.Spec
public import Idealize.ShloMosaic.Lib.Pipeline.Value
public import Idealize.ShloMosaic.Lib.MatmulPlain
public import Idealize.ShloMosaic.Lib.WholeRead

@[expose] public section

noncomputable section

namespace Cert.KernelIdeal.Block

open Cert.KernelIdeal Cert.KernelIdeal.Gen Idealize.ShloMosaic Idealize.ShloMosaic.TcCoe Idealize.ShloMosaic.ValueIdx

/-! ## The quantiser on the rows of one group, entry by entry -/

/-- One entry of a group's hidden columns. -/
theorem hidden_apply (g u xs : FVec Ideal S512x128 .f32) (wg wu : Vec Ideal S1x128 .f32) (r : Fin 512) (l : Fin 128) :
    hidden g u xs wg wu (ix2 r l)
      = Spec.gated (g (ix2 r l)) (u (ix2 r l)) (xs (ix2 r l)) (wg (ix2 0 l)) (wu (ix2 0 l)) := by
  have e : ∀ w : Vec Ideal S1x128 .f32,
      broadcastTo S512x128 (shapeCast S1x128 w shapeCasts_S1x128_S1x128) broadcasts_S1x128_S512x128 (ix2 r l) = w (ix2 0 l) := by
    intro w
    rw [shapeCast_self]
    exact broadcastTo_apply _ _ _ _ (by intro a; fin_cases a <;> rfl)
  show _ * (broadcastTo S512x128 (shapeCast S1x128 wg _) _ (ix2 r l)) * Ideal.logistic (_ * (broadcastTo S512x128 (shapeCast S1x128 wg _) _ (ix2 r l)))
    * (_ * (broadcastTo S512x128 (shapeCast S1x128 wu _) _ (ix2 r l))) = _
  rw [e, e]
  rfl

/-- The row of a group's columns. -/
abbrev row (h : FVec Ideal S512x128 .f32) (r : Fin 512) : Fin 128 → EReal := fun l => h (ix2 r l)

/-- The largest magnitude of a row's group, times 1/448. -/
theorem peak_apply (h : FVec Ideal S512x128 .f32) (r : Fin 512) (z : Fin 1) : peak h (ix2 r z) = Spec.peak (row h r) := by
  have e : shapeCast S512x1 (multiReduction .maximumf [1] S512 (absf h) 0xFF800000#32 reduces_S512x128_S512 (.inl rfl) rfl)
      shapeCasts_S512_S512x1 (ix2 r z)
      = Finset.univ.fold max (Ideal.ofBits .f32 0xFF800000#32) (fun l : Fin 128 => max (h (ix2 r l)) (-(h (ix2 r l)))) := by
    rw [shapeCast_apply _ _ _ (ix1 r) (by rw [Shape.rowMajor_val_one, Shape.rowMajor_val_two]; show r.val = r.val * 1 + z.val; omega)]
    refine (Ideal.multiReduction_maximumf_single (s := S512x128) (a := (1 : Fin 2)) _ _ _ _ _ _).trans ?_
    refine Finset.fold_congr fun l _ => ?_
    have : Shape.Reduces.lift reduces_S512x128_S512 (ix1 r) l = ix2 r l := by
      funext a; fin_cases a <;> rfl
    show absf h _ = _
    rw [this]; rfl
  show shapeCast S512x1 (multiReduction .maximumf [1] S512 (absf h) 0xFF800000#32 reduces_S512x128_S512 (.inl rfl) rfl)
      shapeCasts_S512_S512x1 (ix2 r z) * _ = _
  rw [e]; rfl

/-- One halving step acts entry by entry. -/
theorem halve_apply (y : FVec Ideal S512x1 .f32) (b : BitVec 32) (f : IVec S512x1 32) (i : S512x1.Idx) :
    halve y b f i = Exponent.halve (y i) b (f i) := rfl

/-- The exponent field of each entry is that of its number. -/
theorem field_apply (y : FVec Ideal S512x1 .f32) (i : S512x1.Idx) : field y i = Exponent.field (y i) := by
  have e : ∀ a : IVec S512x1 32, select (cmpf .oge y (broadcast S512x1 (Scalar.ofBits .f32 0x7B800000#32)))
      (broadcast S512x1 2139095040#32) a i
        = Scalar.select (FloatOps.cmpf .oge (y i) (Scalar.ofBits .f32 0x7B800000#32)) 2139095040#32 (a i) := fun _ => rfl
  unfold field Exponent.field
  rw [e, halve_apply, halve_apply, halve_apply, halve_apply, halve_apply, halve_apply, halve_apply, halve_apply]
  generalize y i = v
  rw [show (broadcast S512x1 0#32 : IVec S512x1 32) i = 0#32 from rfl]

/-- The biased exponent of each entry is that of its number. -/
theorem biased_apply (y : FVec Ideal S512x1 .f32) (i : S512x1.Idx) : biased y i = Exponent.biased (y i) := by
  have e : ∀ f : IVec S512x1 32, select (ori (cmpi .eq f (broadcast S512x1 0#32)) (cmpi .eq f (broadcast S512x1 2139095040#32)))
      (broadcast S512x1 1056964608#32) f i
        = Scalar.select (IntOp.ori (IntOp.cmpi .eq (f i) 0#32) (IntOp.cmpi .eq (f i) 2139095040#32)) 1056964608#32 (f i) := fun _ => rfl
  unfold biased Exponent.biased
  rw [e, field_apply]

/-- The scale of each row is that of its entries. -/
theorem scale_apply (h : FVec Ideal S512x128 .f32) (r : Fin 512) (z : Fin 1) : scale h (ix2 r z) = Spec.scale (row h r) := by
  have e : ∀ b : IVec S512x1 32, (bitcastToFloat .f32 (addi b (broadcast S512x1 8388608#32)) : FVec Ideal S512x1 .f32) (ix2 r z)
      = FloatOps.ofBits (F := Ideal) .f32 (IntOp.addi (b (ix2 r z)) 8388608#32) := fun _ => rfl
  unfold scale Spec.scale Exponent.scale
  rw [e, biased_apply, peak_apply]

/-- Clipping acts entry by entry. -/
theorem clip_apply (v : FVec Ideal S512x128 .f32) (j : S512x128.Idx) :
    truncf .fp8e4m3 (minimumf (broadcast S512x128 (Scalar.ofBits .f32 0x43E00000#32))
      (maximumf (broadcast S512x128 (Scalar.ofBits .f32 0xC3E00000#32)) v)) bitsLt_fp8e4m3_f32 j = Spec.clip (v j) := rfl

/-- The code of each entry is that of its row's entry. -/
theorem codes_apply (h : FVec Ideal S512x128 .f32) (r : Fin 512) (l : Fin 128) : codes h (ix2 r l) = Spec.code (row h r) l := by
  have e : ∀ b : IVec S512x1 32, (mulf h (broadcastTo S512x128 (bitcastToFloat .f32 (subi (broadcast S512x1 2122317824#32) b))
        broadcasts_S512x1_S512x128) : FVec Ideal S512x128 .f32) (ix2 r l)
      = h (ix2 r l) * FloatOps.ofBits (F := Ideal) .f32 (IntOp.subi 2122317824#32 (b (ix2 r 0))) := fun b =>
    congrArg (h (ix2 r l) * ·) (broadcastTo_apply _ _ _ (ix2 r 0) (by intro a; fin_cases a <;> rfl))
  unfold codes Spec.code Exponent.inverse
  rw [clip_apply, e, biased_apply, peak_apply]

/-! ## What the body loads -/

section Buffers

variable (c : Dev nD) (arg2 : Memref sig .tc .vmem S512x3072 .fp8e4m3) (harg2 : arg2.IsWhole) (arg3 : Memref sig .tc .vmem S1x1x512 .f32) (harg3 : arg3.IsWhole) (arg4 : Memref sig .tc .vmem S3072x2048 .fp8e4m3) (harg4 : arg4.IsWhole) (arg5 : Memref sig .tc .vmem S1x2048 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S512x2048 .fp8e4m3) (harg8 : arg8.IsWhole) (arg9 : Memref sig .tc .vmem S1x16x512 .f32) (harg9 : arg9.IsWhole) (arg10 : Memref sig .tc .vmem S512x128 .f32) (harg10 : arg10.IsWhole)
    (x0 : Vec Ideal S512x3072 .fp8e4m3) (x1 : Vec Ideal S1x1x512 .f32) (x2 : Vec Ideal S3072x2048 .fp8e4m3) (x3 : Vec Ideal S1x2048 .f32) (x4 : Vec Ideal S3072x2048 .fp8e4m3) (x5 : Vec Ideal S1x2048 .f32)

/-- Each of the four stores of row scales holds, in every lane of a row, that row's scale. -/
theorem rowLanes_apply (q : Fin 4) (a b : Fin 128) :
    rowLanes arg3 harg3 x1 q (ix2 a b) = x1 (ix3 0 0 ⟨128 * q.val + a.val, by have := q.isLt; have := a.isLt; omega⟩) := by
  unfold rowLanes
  refine (shapeCast_apply (s := S128x128) (t := S128x128) _ shapeCasts_S128x128_S128x128 (ix2 a b) (ix2 a b) rfl).trans ?_
  refine (transpose_apply [1, 0] _ _ _ (ix2 b a) (by intro d; fin_cases d <;> rfl)).trans ?_
  refine (broadcastTo_apply _ _ _ (ix2 0 a) (by intro d; fin_cases d <;> rfl)).trans ?_
  refine (shapeCast_apply (s := S1x128) (t := S1x128) _ shapeCasts_S1x128_S1x128 (ix2 0 a) (ix2 0 a) rfl).trans ?_
  refine (shapeCast_apply _ _ _ (ix3 0 0 a) (by rw [Shape.rowMajor_val_two, Shape.rowMajor_val_three]; rfl)).trans ?_
  refine (harg3.readAt_unread x1 _ _).trans (congrArg x1 ?_)
  funext d
  fin_cases d
  · rfl
  · rfl
  · exact Fin.ext (by show 128 * q.val + 1 * a.val = 128 * q.val + a.val; omega)

/-- The row scales as loaded back: every lane of row `r` holds the scale of row `r`. -/
theorem rowScales_apply (r : Fin 512) (l : Fin 128) :
    (kernelRun0_A.sl.v32 c arg3 harg3 arg10 x1 : Vec Ideal S512x128 .f32) (ix2 r l) = x1 (ix3 0 0 r) := by
  rw [rowScales_eq]
  have hG : ∀ p ∈ (List.finRange 4).reverse.map (rowPiece arg3 harg3 x1), ∀ x : p.1.shape.Idx,
      p.2 x = (fun y : S512x128.Idx => x1 (ix3 0 0 (y 0))) (p.1.emb x) := by
    intro p hp x
    obtain ⟨q, -, rfl⟩ := List.mem_map.1 hp
    have hx : x = (ix2 (x 0) (x 1) : S128x128.Idx) := eq_ix2 (n0 := 128) (n1 := 128) x
    rw [hx]
    refine (rowLanes_apply arg3 harg3 x1 q (x 0) (x 1)).trans (congrArg x1 ?_)
    funext d
    fin_cases d
    · rfl
    · rfl
    · exact Fin.ext (by show 128 * q.val + (x 0).val = 128 * q.val + 1 * (x 0).val; omega)
  have hc : ∃ p ∈ (List.finRange 4).reverse.map (rowPiece arg3 harg3 x1), (ix2 r l : S512x128.Idx) ∈ p.1.set := by
    have hr := r.isLt
    have hl := l.isLt
    refine ⟨_, List.mem_map.2 ⟨⟨r.val / 128, by omega⟩, by simp, rfl⟩, ?_⟩
    refine (Rect.mem_set_unit (inb := inbRows _)).2 fun d => ?_
    fin_cases d
    · show 128 * (r.val / 128) ≤ r.val ∧ r.val < 128 * (r.val / 128) + 128; omega
    · show 0 ≤ l.val ∧ l.val < 0 + 128; omega
  have hi : (Rect.unit (s := S512x128) ![0, 0] S512x128.size inb_S512x128_S512x128_0_0).toLoadRect.idx (ix2 r l : S512x128.Idx) = ix2 r l := by
    funext d
    fin_cases d
    · exact Fin.ext (by show 0 + 1 * r.val = r.val; omega)
    · exact Fin.ext (by show 0 + 1 * l.val = l.val; omega)
  have := View.read_writes_apply_of_pieces arg10.view (arg10.view.junk (Val := Elt Ideal)) (fun y : S512x128.Idx => x1 (ix3 0 0 (y 0))) _ hG _ hc
  exact (congrArg (View.read (Elt Ideal) arg10.view (arg10.view.writes (Elt Ideal) (arg10.view.junk (Val := Elt Ideal))
    ((List.finRange 4).reverse.map (rowPiece arg3 harg3 x1)))) hi).trans this

/-- Group `k`'s columns of a product: row times column. -/
theorem product_apply (w : Memref sig .tc .vmem S3072x2048 .fp8e4m3) (hw : w.IsWhole) (xw : Vec Ideal S3072x2048 .fp8e4m3) (k : Fin 16)
    (r : Fin 512) (l : Fin 128) :
    product arg2 harg2 x0 w hw xw k (ix2 r l) = ∑ d : Fin 3072, x0 (ix2 r d) * xw (ix2 d (Spec.column k l)) := by
  have hk := k.isLt
  have hl := l.isLt
  unfold product
  refine (extractStridedSlice_apply _ _ _ _ (ix2 r ⟨128 * (k.val % 2) + l.val, by omega⟩ : S512x256.Idx) ?_).trans ?_
  · intro d; fin_cases d
    · show r.val = 0 + r.val; omega
    · rfl
  refine (Ideal.matmul_plain_apply (M := 512) (K := 3072) (N := 256) none _ _ _ r _).trans ?_
  have h0 : (constant S512x256 .f32 0x00000000#32 : FVec Ideal S512x256 .f32) (ix2 r ⟨128 * (k.val % 2) + l.val, by omega⟩) = 0 :=
    Ideal.ofBits_zero_f32
  rw [h0, zero_add]
  refine Finset.sum_congr rfl fun d _ => ?_
  refine congrArg₂ (· * ·) ((shapeCast_apply (s := S512x3072) (t := S512x3072) _ shapeCasts_S512x3072_S512x3072 (ix2 r d) (ix2 r d) rfl).trans
    <| (harg2.readAt_unread x0 _ _).trans (congrArg x0 ?_)) ((hw.readAt_unread xw _ _).trans (congrArg xw ?_))
  · funext a
    fin_cases a
    · exact Fin.ext (by show 0 + 1 * r.val = r.val; omega)
    · exact Fin.ext (by show 0 + 1 * d.val = d.val; omega)
  · funext a
    fin_cases a
    · exact Fin.ext (by show 0 + 1 * d.val = d.val; omega)
    · exact Fin.ext (by show 256 * (k.val / 2) + 1 * (128 * (k.val % 2) + l.val) = 128 * k.val + l.val; omega)

/-- Group `k`'s column scales. -/
theorem colScales_apply (w : Memref sig .tc .vmem S1x2048 .f32) (hw : w.IsWhole) (xw : Vec Ideal S1x2048 .f32) (k : Fin 16) (l : Fin 128) :
    colScales w hw xw k (ix2 0 l) = xw (ix2 0 (Spec.column k l)) := by
  unfold colScales
  refine (hw.readAt_unread xw _ _).trans (congrArg xw ?_)
  funext a
  fin_cases a
  · rfl
  · exact Fin.ext (by show 128 * k.val + 1 * l.val = 128 * k.val + l.val; omega)

/-- The hidden row that row `r` of a block gives. -/
def hiddenRow (r : Fin 512) : Fin 2048 → EReal :=
  Spec.hidden (fun d => x0 (ix2 r d)) (x1 (ix3 0 0 r)) (fun d f => x2 (ix2 d f)) (fun d f => x4 (ix2 d f)) (fun f => x3 (ix2 0 f))
    (fun f => x5 (ix2 0 f))

/-- Group `k` holds group `k`'s columns of the hidden rows. -/
theorem group_apply (k : Fin 16) (r : Fin 512) (l : Fin 128) :
    group c arg2 harg2 arg3 harg3 arg4 harg4 arg5 harg5 arg6 harg6 arg7 harg7 arg10 x0 x1 x2 x3 x4 x5 k (ix2 r l)
      = hiddenRow x0 x1 x2 x3 x4 x5 r (Spec.column k l) := by
  unfold group
  rw [hidden_apply, product_apply, product_apply, rowScales_apply, colScales_apply, colScales_apply]
  rfl

/-- The row of a group is those columns of the hidden row. -/
theorem row_group (k : Fin 16) (r : Fin 512) :
    row (group c arg2 harg2 arg3 harg3 arg4 harg4 arg5 harg5 arg6 harg6 arg7 harg7 arg10 x0 x1 x2 x3 x4 x5 k) r
      = fun l => hiddenRow x0 x1 x2 x3 x4 x5 r (Spec.column k l) :=
  funext fun l => group_apply c arg2 harg2 arg3 harg3 arg4 harg4 arg5 harg5 arg6 harg6 arg7 harg7 arg10 x0 x1 x2 x3 x4 x5 k r l

/-! ## The two result blocks -/

/-- The codes' block: the codes of each row's hidden row. -/
theorem out_codes (i : grid0.Coords) (y : S512x2048.Idx) :
    out0_A_6 c i arg2 harg2 arg3 harg3 arg4 harg4 arg5 harg5 arg6 harg6 arg7 harg7 arg8 harg8 arg9 harg9 arg10 harg10 x0 x1 x2 x3 x4 x5 y
      = Spec.codes (hiddenRow x0 x1 x2 x3 x4 x5 (y 0)) (y 1) := by
  unfold out0_A_6
  refine View.read_writes_apply_of_pieces VO0_6 _ (fun y : S512x2048.Idx => Spec.codes (hiddenRow x0 x1 x2 x3 x4 x5 (y 0)) (y 1)) _ ?_ y
    (cover0_A_6 c i arg2 harg2 arg3 harg3 arg4 harg4 arg5 harg5 arg6 harg6 arg7 harg7 arg8 harg8 arg9 harg9 arg10 harg10 x0 x1 x2 x3 x4 x5 y)
  rw [pieces_codes]
  intro p hp x
  obtain ⟨k, -, rfl⟩ := List.mem_map.1 hp
  obtain ⟨r, l, rfl⟩ : ∃ (r : Fin 512) (l : Fin 128), x = (ix2 r l : S512x128.Idx) := ⟨x 0, x 1, eq_ix2 (n0 := 512) (n1 := 128) x⟩
  have he : (Rect.unit (s := S512x2048) ![0, 128 * k.val] ![512, 128] (inbGroup k)).emb (ix2 r l : S512x128.Idx) = ix2 r (Spec.column k l) := by
    funext a
    fin_cases a
    · exact Fin.ext (by show 0 + 1 * r.val = r.val; omega)
    · exact Fin.ext (by show 128 * k.val + 1 * l.val = 128 * k.val + l.val; omega)
  refine (codes_apply _ r l).trans ?_
  rw [row_group]
  refine Eq.trans ?_ (congrArg (fun y : S512x2048.Idx => Spec.codes (hiddenRow x0 x1 x2 x3 x4 x5 (y 0)) (y 1)) he.symm)
  show _ = Spec.codes (hiddenRow x0 x1 x2 x3 x4 x5 r) (Spec.column k l)
  unfold Spec.codes
  rw [Spec.groupOf_column, Spec.laneOf_column]

/-- Setting lane `n` of the table changes that lane alone. -/
theorem put_apply (n : Nat) (hn : n < 16) (s : FVec Ideal S512x1 .f32) (acc : FVec Ideal S512x128 .f32) (r : Fin 512) (l : Fin 128) :
    put kernelRun0_A.sl.v33 (BitVec.ofNat 32 n) s acc (ix2 r l) = if l.val = n then s (ix2 r 0) else acc (ix2 r l) := by
  have hl := l.isLt
  have e : broadcastTo S512x128 (shapeCast S512x1 s shapeCasts_S512x1_S512x1) broadcasts_S512x1_S512x128 (ix2 r l) = s (ix2 r 0) := by
    rw [shapeCast_self]
    exact broadcastTo_apply _ _ _ _ (by intro a; fin_cases a <;> rfl)
  have hi : (kernelRun0_A.sl.v33 : IVec S512x128 32) (ix2 r l) = BitVec.ofNat 32 l.val := by
    show BitVec.ofNat 32 (0 * 128 + l.val) = _
    rw [Nat.zero_mul, Nat.zero_add]
  have hc : IntOp.cmpi .eq (BitVec.ofNat 32 l.val) (BitVec.ofNat 32 n) = BitVec.ofBool (decide (l.val = n)) := by
    show BitVec.ofBool (BitVec.ofNat 32 l.val == BitVec.ofNat 32 n) = _
    congr 1
    rw [Bool.eq_iff_iff, beq_iff_eq, decide_eq_true_iff]
    constructor
    · intro h
      have := congrArg BitVec.toNat h
      simp only [BitVec.toNat_ofNat] at this
      omega
    · intro h; rw [h]
  show Scalar.select (IntOp.cmpi .eq ((kernelRun0_A.sl.v33 : IVec S512x128 32) (ix2 r l)) (BitVec.ofNat 32 n))
    (broadcastTo S512x128 (shapeCast S512x1 s shapeCasts_S512x1_S512x1) broadcasts_S512x1_S512x128 (ix2 r l)) (acc (ix2 r l)) = _
  rw [e, hi, hc]
  unfold Scalar.select
  by_cases h : l.val = n
  · rw [if_pos h, if_pos (by rw [decide_eq_true h]; rfl)]
  · rw [if_neg h, if_neg (by rw [decide_eq_false h]; decide)]

/-- After `n` groups, lane `k < n` of the table holds group `k`'s scales. -/
theorem table_apply (n : Nat) (hn : n ≤ 16) (k : Fin 16) (hk : k.val < n) (r : Fin 512) :
    table c arg2 harg2 arg3 harg3 arg4 harg4 arg5 harg5 arg6 harg6 arg7 harg7 arg10 x0 x1 x2 x3 x4 x5 n hn
        (ix2 r ⟨k.val, by have := k.isLt; omega⟩)
      = Spec.scales (hiddenRow x0 x1 x2 x3 x4 x5 r) k := by
  induction n with
  | zero => omega
  | succ n ih =>
    unfold table
    rw [put_apply n (by omega)]
    by_cases h : k.val = n
    · rw [if_pos h, scale_apply, row_group]
      obtain rfl : k = ⟨n, hn⟩ := Fin.ext h
      rfl
    · rw [if_neg h]
      exact ih (by omega) (by omega)

/-- The scales of a quarter of the rows, as stored. -/
theorem turned_apply (q : Fin 4) (z : Fin 1) (k : Fin 16) (a : Fin 128) :
    turned c arg2 harg2 arg3 harg3 arg4 harg4 arg5 harg5 arg6 harg6 arg7 harg7 arg10 x0 x1 x2 x3 x4 x5 q (ix3 z k a)
      = Spec.scales (hiddenRow x0 x1 x2 x3 x4 x5 ⟨128 * q.val + a.val, by have := q.isLt; have := a.isLt; omega⟩) k := by
  have hk := k.isLt
  unfold turned
  refine (shapeCast_apply _ _ _ (ix2 k a)
    (by rw [Shape.rowMajor_val_two, Shape.rowMajor_val_three]; show k.val * 128 + a.val = (z.val * 16 + k.val) * 128 + a.val; omega)).trans ?_
  refine (extractStridedSlice_apply _ _ _ _ (ix2 ⟨k.val, by omega⟩ a : S128x128.Idx) ?_).trans ?_
  · intro d; fin_cases d
    · show k.val = 0 + k.val; omega
    · show a.val = 0 + a.val; omega
  refine (transpose_apply [1, 0] _ _ _ (ix2 a ⟨k.val, by omega⟩) (by intro d; fin_cases d <;> rfl)).trans ?_
  refine (extractStridedSlice_apply _ _ _ _
    (ix2 ⟨128 * q.val + a.val, by have := q.isLt; have := a.isLt; omega⟩ ⟨k.val, by omega⟩ : S512x128.Idx) ?_).trans ?_
  · intro d; fin_cases d
    · rfl
    · show k.val = 0 + k.val; omega
  exact table_apply c arg2 harg2 arg3 harg3 arg4 harg4 arg5 harg5 arg6 harg6 arg7 harg7 arg10 x0 x1 x2 x3 x4 x5 16 _ k hk _

/-- The scales' block: the scales of each row's hidden row, group by group. -/
theorem out_scales (i : grid0.Coords) (y : S1x16x512.Idx) :
    out0_A_7 c i arg2 harg2 arg3 harg3 arg4 harg4 arg5 harg5 arg6 harg6 arg7 harg7 arg8 harg8 arg9 harg9 arg10 harg10 x0 x1 x2 x3 x4 x5 y
      = Spec.scales (hiddenRow x0 x1 x2 x3 x4 x5 (y 2)) (y 1) := by
  unfold out0_A_7
  refine View.read_writes_apply_of_pieces VO0_7 _ (fun y : S1x16x512.Idx => Spec.scales (hiddenRow x0 x1 x2 x3 x4 x5 (y 2)) (y 1)) _ ?_ y
    (cover0_A_7 c i arg2 harg2 arg3 harg3 arg4 harg4 arg5 harg5 arg6 harg6 arg7 harg7 arg8 harg8 arg9 harg9 arg10 harg10 x0 x1 x2 x3 x4 x5 y)
  rw [pieces_scales]
  intro p hp x
  obtain ⟨q, -, rfl⟩ := List.mem_map.1 hp
  obtain ⟨z, k, a, rfl⟩ : ∃ (z : Fin 1) (k : Fin 16) (a : Fin 128), x = (ix3 z k a : S1x16x128.Idx) :=
    ⟨x 0, x 1, x 2, eq_ix3 (n0 := 1) (n1 := 16) (n2 := 128) x⟩
  have he : (Rect.unit (s := S1x16x512) ![0, 0, 128 * q.val] ![1, 16, 128] (inbScales q)).emb (ix3 z k a : S1x16x128.Idx)
      = ix3 z k ⟨128 * q.val + a.val, by have := q.isLt; have := a.isLt; omega⟩ := by
    funext d
    fin_cases d
    · exact Fin.ext (by show 0 + 1 * z.val = z.val; omega)
    · exact Fin.ext (by show 0 + 1 * k.val = k.val; omega)
    · exact Fin.ext (by show 128 * q.val + 1 * a.val = 128 * q.val + a.val; omega)
  refine (turned_apply c arg2 harg2 arg3 harg3 arg4 harg4 arg5 harg5 arg6 harg6 arg7 harg7 arg10 x0 x1 x2 x3 x4 x5 q z k a).trans ?_
  refine Eq.trans ?_ (congrArg (fun y : S1x16x512.Idx => Spec.scales (hiddenRow x0 x1 x2 x3 x4 x5 (y 2)) (y 1)) he.symm)
  rfl

end Buffers

end Cert.KernelIdeal.Block

end
-- ==== Proof.KernelRun.lean ====
/- WHAT THE KERNEL'S ARRAYS HOLD. Grid point `t` works on rows 512·t … 512·t + 511 of the 16384 tokens, that is on batch `t / 8`. Here:
   its blocks are those rows of the arguments, so its two result blocks are the layer's codes and scales there; the blocks fill the
   two arrays; and the lines after the region put the arrays in the results' shapes. -/
module

public import proofs.«01_k».proof.Proof.BlockValue
public import Idealize.ShloMosaic.Lib.Claim

@[expose] public section

noncomputable section

namespace Cert.KernelIdeal.Run

open Cert.KernelIdeal Cert.KernelIdeal.Gen Cert.KernelIdeal.Block Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arrays the region reads -/

/-- The codes as the region finds them: the argument with batches and tokens in one axis. -/
theorem entry_v0 (c : Dev nD) : V m c main_v0 = shapeCast S16384x3072 (m ((c : Thread nD τ).loc main_arg0)) shapeCasts_S4x4096x3072_S16384x3072 := by
  show StableHlo.after hostOps0 _ (Proc.devRef .tc main_v0) = _
  after_results
  rfl

/-- The token scales as the region finds them: the argument with its last two axes exchanged. -/
theorem entry_v1 (c : Dev nD) : V m c main_v1 = transpose S4x1x4096 [0, 2, 1] (m ((c : Thread nD τ).loc main_arg1)) transposes_S4x4096x1_S4x1x4096_0_2_1 := by
  show StableHlo.after hostOps0 _ (Proc.devRef .tc main_v1) = _
  after_results

/-- The gate's column scales as a row. -/
theorem entry_v2 (c : Dev nD) : V m c main_v2 = shapeCast S1x2048 (m ((c : Thread nD τ).loc main_arg3)) shapeCasts_S2048_S1x2048 := by
  show StableHlo.after hostOps0 _ (Proc.devRef .tc main_v2) = _
  after_results
  rfl

/-- The up product's column scales as a row. -/
theorem entry_v3 (c : Dev nD) : V m c main_v3 = shapeCast S1x2048 (m ((c : Thread nD τ).loc main_arg5)) shapeCasts_S2048_S1x2048 := by
  show StableHlo.after hostOps0 _ (Proc.devRef .tc main_v3) = _
  after_results
  rfl

/-! ## Where each window's block lies -/

/-- There are 32 points. -/
theorem points (t : Fin cfg0.N) : t.val < 32 := lt_of_lt_of_le t.isLt (by decide)

/-- Which block of each array a point takes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 3) = t.val / 8 ∧ win0_7.index t (1 : Fin 3) = 0 ∧ win0_7.index t (2 : Fin 3) = t.val % 8 :=
  (by decide +kernel : ∀ t : Fin grid0.N, _)

/-- The batch of point `t`. -/
def batch (t : Fin cfg0.N) : Fin 4 := ⟨t.val / 8, by have := points t; omega⟩
/-- The token that row `r` of point `t` is. -/
def token (t : Fin cfg0.N) (r : Fin 512) : Fin 4096 := ⟨512 * (t.val % 8) + r.val, by have := r.isLt; omega⟩
/-- Its row among the 16384. -/
def flatRow (t : Fin cfg0.N) (r : Fin 512) : Fin 16384 := ⟨512 * t.val + r.val, by have := points t; have := r.isLt; omega⟩

/-- Where an entry of a point's block lies in its array, for each of the eight arrays. -/
theorem emb0 (t : Fin cfg0.N) (r : Fin 512) (d : Fin 3072) :
    ((cfg0.win 0).blk t).view.emb (ix2 r d : S512x3072.Idx) = (ix2 (flatRow t r) d : S16384x3072.Idx) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 3072 + 1 * d.val = d.val; omega
theorem emb1 (t : Fin cfg0.N) (r : Fin 512) :
    ((cfg0.win 1).blk t).view.emb (ix3 0 0 r : S1x1x512.Idx) = (ix3 (batch t) 0 (token t r) : S4x1x4096.Idx) := by
  obtain ⟨e0, e1, e2⟩ := index1 t
  funext a; apply Fin.ext
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 512 + 1 * r.val = 512 * (t.val % 8) + r.val; omega
theorem emb2 (t : Fin cfg0.N) (j : S3072x2048.Idx) : ((cfg0.win 2).blk t).view.emb j = j := by
  obtain ⟨e0, e1⟩ := index2 t
  funext a; apply Fin.ext
  match a with
  | ⟨0, _⟩ => show win0_2.index t (0 : Fin 2) * 3072 + 1 * (j 0).val = (j 0).val; omega
  | ⟨1, _⟩ => show win0_2.index t (1 : Fin 2) * 2048 + 1 * (j 1).val = (j 1).val; omega
theorem emb3 (t : Fin cfg0.N) (j : S1x2048.Idx) : ((cfg0.win 3).blk t).view.emb j = j := by
  obtain ⟨e0, e1⟩ := index3 t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem emb4 (t : Fin cfg0.N) (j : S3072x2048.Idx) : ((cfg0.win 4).blk t).view.emb j = j := by
  obtain ⟨e0, e1⟩ := index4 t
  funext a; apply Fin.ext
  match a with
  | ⟨0, _⟩ => show win0_4.index t (0 : Fin 2) * 3072 + 1 * (j 0).val = (j 0).val; omega
  | ⟨1, _⟩ => show win0_4.index t (1 : Fin 2) * 2048 + 1 * (j 1).val = (j 1).val; omega
theorem emb5 (t : Fin cfg0.N) (j : S1x2048.Idx) : ((cfg0.win 5).blk t).view.emb j = j := by
  obtain ⟨e0, e1⟩ := index5 t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem emb6 (t : Fin cfg0.N) (r : Fin 512) (f : Fin 2048) :
    ((cfg0.win 6).blk t).view.emb (ix2 r f : S512x2048.Idx) = (ix2 (flatRow t r) f : S16384x2048.Idx) := by
  obtain ⟨e0, e1⟩ := index6 t
  funext a; apply Fin.ext
  match a with
  | ⟨0, _⟩ => show win0_6.index t (0 : Fin 2) * 512 + 1 * r.val = 512 * t.val + r.val; omega
  | ⟨1, _⟩ => show win0_6.index t (1 : Fin 2) * 2048 + 1 * f.val = f.val; omega
theorem emb7 (t : Fin cfg0.N) (z : Fin 1) (k : Fin 16) (r : Fin 512) :
    ((cfg0.win 7).blk t).view.emb (ix3 z k r : S1x16x512.Idx) = (ix3 (batch t) k (token t r) : S4x16x4096.Idx) := by
  obtain ⟨e0, e1, e2⟩ := index7 t
  have hz := z.isLt
  funext a; apply Fin.ext
  match a with
  | ⟨0, _⟩ => show win0_7.index t (0 : Fin 3) * 1 + 1 * z.val = t.val / 8; omega
  | ⟨1, _⟩ => show win0_7.index t (1 : Fin 3) * 16 + 1 * k.val = k.val; omega
  | ⟨2, _⟩ => show win0_7.index t (2 : Fin 3) * 512 + 1 * r.val = 512 * (t.val % 8) + r.val; omega

/-! ## The blocks of point `t`, read from the arguments -/

/-- What an entry of a point's block is in terms of the arguments, for each of the six inputs. -/
theorem block0 (c : Dev nD) (t : Fin cfg0.N) (r : Fin 512) (d : Fin 3072) :
    (iblk m c 0 t : Vec Ideal S512x3072 .fp8e4m3) (ix2 r d) = m ((c : Thread nD τ).loc main_arg0) (ix3 (batch t) (token t r) d) := by
  show V m c main_v0 (((cfg0.win 0).blk t).view.emb (ix2 r d : S512x3072.Idx)) = _
  rw [emb0, entry_v0]
  have := points t
  refine shapeCast_apply (s := S4x4096x3072) (t := S16384x3072) _ _ _ _ ?_
  rw [Shape.rowMajor_val_three, Shape.rowMajor_val_two]
  show (t.val / 8 * 4096 + (512 * (t.val % 8) + r.val)) * 3072 + d.val = (512 * t.val + r.val) * 3072 + d.val
  omega
theorem block1 (c : Dev nD) (t : Fin cfg0.N) (r : Fin 512) :
    (iblk m c 1 t : Vec Ideal S1x1x512 .f32) (ix3 0 0 r) = m ((c : Thread nD τ).loc main_arg1) (ix3 (batch t) (token t r) 0) := by
  show V m c main_v1 (((cfg0.win 1).blk t).view.emb (ix3 0 0 r : S1x1x512.Idx)) = _
  rw [emb1, entry_v1]
  exact transpose_apply (s := S4x4096x1) (t := S4x1x4096) [0, 2, 1] _ _ _ _ (by intro a; fin_cases a <;> rfl)
theorem block2 (c : Dev nD) (t : Fin cfg0.N) (j : S3072x2048.Idx) :
    (iblk m c 2 t : Vec Ideal S3072x2048 .fp8e4m3) j = m ((c : Thread nD τ).loc main_arg2) j := by
  show V m c main_arg2 (((cfg0.win 2).blk t).view.emb j) = _
  rw [emb2, V_main_arg2]
theorem block3 (c : Dev nD) (t : Fin cfg0.N) (f : Fin 2048) :
    (iblk m c 3 t : Vec Ideal S1x2048 .f32) (ix2 0 f) = m ((c : Thread nD τ).loc main_arg3) (ix1 f) := by
  show V m c main_v2 (((cfg0.win 3).blk t).view.emb (ix2 0 f : S1x2048.Idx)) = _
  rw [emb3, entry_v2]
  refine shapeCast_apply (s := S2048) (t := S1x2048) _ _ _ _ ?_
  rw [Shape.rowMajor_val_one, Shape.rowMajor_val_two]
  show f.val = 0 * 2048 + f.val
  omega
theorem block4 (c : Dev nD) (t : Fin cfg0.N) (j : S3072x2048.Idx) :
    (iblk m c 4 t : Vec Ideal S3072x2048 .fp8e4m3) j = m ((c : Thread nD τ).loc main_arg4) j := by
  show V m c main_arg4 (((cfg0.win 4).blk t).view.emb j) = _
  rw [emb4, V_main_arg4]
theorem block5 (c : Dev nD) (t : Fin cfg0.N) (f : Fin 2048) :
    (iblk m c 5 t : Vec Ideal S1x2048 .f32) (ix2 0 f) = m ((c : Thread nD τ).loc main_arg5) (ix1 f) := by
  show V m c main_v3 (((cfg0.win 5).blk t).view.emb (ix2 0 f : S1x2048.Idx)) = _
  rw [emb5, entry_v3]
  refine shapeCast_apply (s := S2048) (t := S1x2048) _ _ _ _ ?_
  rw [Shape.rowMajor_val_one, Shape.rowMajor_val_two]
  show f.val = 0 * 2048 + f.val
  omega

/-- The hidden row of token `s` of batch `b`, from the argument arrays. -/
abbrev argRow (c : Dev nD) (b : Fin 4) (s : Fin 4096) : Fin 2048 → EReal :=
  Spec.layerRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s

/-- Row `r` of point `t`'s blocks gives the hidden row of its token. -/
theorem hiddenRow_block (c : Dev nD) (t : Fin cfg0.N) (r : Fin 512) :
    hiddenRow (iblk m c 0 t) (iblk m c 1 t) (iblk m c 2 t) (iblk m c 3 t) (iblk m c 4 t) (iblk m c 5 t) r
      = argRow m c (batch t) (token t r) := by
  have e0 := fun d => block0 m c t r d
  have e1 := block1 m c t r
  have e2 := fun d f => block2 m c t (ix2 d f)
  have e3 := fun f => block3 m c t f
  have e4 := fun d f => block4 m c t (ix2 d f)
  have e5 := fun f => block5 m c t f
  unfold hiddenRow argRow Spec.layerRow
  rw [funext e0, e1, funext fun d => funext fun f => e2 d f, funext e3, funext fun d => funext fun f => e4 d f, funext e5]

/-! ## The arrays after the region -/

/-- The codes' array: row `n` is token `n mod 4096` of batch `n / 4096`. -/
def codesArray (c : Dev nD) : Vec Ideal S16384x2048 .fp8e4m3 := fun y =>
  Spec.codes (argRow m c ⟨(y 0).val / 4096, by have : (y 0).val < 16384 := (y 0).isLt; omega⟩ ⟨(y 0).val % 4096, Nat.mod_lt _ (by omega)⟩) (y 1)

/-- The scales' array: groups before tokens. -/
def scalesArray (c : Dev nD) : Vec Ideal S4x16x4096 .f32 := fun y => Spec.scales (argRow m c (y 0) (y 2)) (y 1)

/-- The codes' array at a row of point `t`. -/
theorem codesArray_row (c : Dev nD) (t : Fin cfg0.N) (r : Fin 512) (f : Fin 2048) :
    codesArray m c (ix2 (flatRow t r) f) = Spec.codes (argRow m c (batch t) (token t r)) f := by
  have ht := points t
  have hr := r.isLt
  have eb : (⟨(512 * t.val + r.val) / 4096, by omega⟩ : Fin 4) = batch t := Fin.ext (by show (512 * t.val + r.val) / 4096 = t.val / 8; omega)
  have es : (⟨(512 * t.val + r.val) % 4096, Nat.mod_lt _ (by omega)⟩ : Fin 4096) = token t r :=
    Fin.ext (by show (512 * t.val + r.val) % 4096 = 512 * (t.val % 8) + r.val; omega)
  show Spec.codes (argRow m c ⟨(512 * t.val + r.val) / 4096, _⟩ ⟨(512 * t.val + r.val) % 4096, _⟩) f = _
  rw [eb, es]

/-- The scales' array at one entry. -/
theorem scalesArray_row (c : Dev nD) (b : Fin 4) (k : Fin 16) (s : Fin 4096) :
    scalesArray m c (ix3 b k s) = Spec.scales (argRow m c b s) k := rfl

/-- What point `t` leaves in the codes' block. -/
theorem outs_codes (c : Dev nD) (t : Fin cfg0.N) (y : S512x2048.Idx) :
    (outsAt0 m c t).1 y = Spec.codes (hiddenRow (iblk m c 0 t) (iblk m c 1 t) (iblk m c 2 t) (iblk m c 3 t) (iblk m c 4 t) (iblk m c 5 t) (y 0)) (y 1) := by
  dsimp only [outsAt0]
  exact out_codes c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (grid0.coords t) y

/-- What point `t` leaves in the scales' block. -/
theorem outs_scales (c : Dev nD) (t : Fin cfg0.N) (y : S1x16x512.Idx) :
    (outsAt0 m c t).2 y = Spec.scales (hiddenRow (iblk m c 0 t) (iblk m c 1 t) (iblk m c 2 t) (iblk m c 3 t) (iblk m c 4 t) (iblk m c 5 t) (y 2)) (y 1) := by
  dsimp only [outsAt0]
  exact out_scales c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (grid0.coords t) y

/-- What a point writes back of the codes is its block of the codes' array. -/
theorem flushed6 (c : Dev nD) (t : Fin cfg0.N) :
    (dats m 0 c).flushed 6 t = ((cfg0.win 6).blk t).view.read (Elt Ideal) (codesArray m c) := by
  show (cfg0.win 6).cut (grid0.coords t) ((dats m 0 c).after 6 t) = _
  rw [after0_6]
  funext j
  obtain ⟨r, f, rfl⟩ : ∃ (r : Fin 512) (f : Fin 2048), j = (ix2 r f : S512x2048.Idx) := ⟨j 0, j 1, eq_ix2 (n0 := 512) (n1 := 2048) j⟩
  show (outsAt0 m c t).1 (ix2 r f : S512x2048.Idx) = codesArray m c (((cfg0.win 6).blk t).view.emb (ix2 r f : S512x2048.Idx))
  rw [emb6, codesArray_row, ← hiddenRow_block]
  exact outs_codes m c t (ix2 r f)

/-- The part of a point's scales that is written back is all of it. -/
theorem cut7 (t : Fin cfg0.N) (X : Vec Ideal S1x16x512 .f32) (j : S1x16x512.Idx) : (cfg0.win 7).cut (grid0.coords t) X j = X j := rfl

/-- Reading a point's block of an array of scales. -/
theorem read7 (t : Fin cfg0.N) (Y : Vec Ideal S4x16x4096 .f32) (j : S1x16x512.Idx) :
    ((cfg0.win 7).blk t).view.read (Elt Ideal) Y j = Y (((cfg0.win 7).blk t).view.emb j) := rfl

/-- What a point writes back of the scales is its block of the scales' array. -/
theorem flushed7 (c : Dev nD) (t : Fin cfg0.N) :
    (dats m 0 c).flushed 7 t = ((cfg0.win 7).blk t).view.read (Elt Ideal) (scalesArray m c) := by
  show (cfg0.win 7).cut (grid0.coords t) ((dats m 0 c).after 7 t) = _
  rw [after0_7]
  have e : ∀ j : S1x16x512.Idx, (outsAt0 m c t).2 j = scalesArray m c (((cfg0.win 7).blk t).view.emb j) := by
    intro j
    obtain ⟨z, k, r, rfl⟩ : ∃ (z : Fin 1) (k : Fin 16) (r : Fin 512), j = (ix3 z k r : S1x16x512.Idx) :=
      ⟨j 0, j 1, j 2, eq_ix3 (n0 := 1) (n1 := 16) (n2 := 512) j⟩
    rw [outs_scales, emb7, scalesArray_row, ← hiddenRow_block]
  funext j
  exact (cut7 t _ j).trans ((e j).trans (read7 t _ j).symm)

/-- Every entry of the codes' array is written by some point. -/
theorem covered6 (i : S16384x2048.Idx) : ∃ t : Fin cfg0.N, (cfg0.win 6).flush t = true ∧ i ∈ ((cfg0.win 6).blk t).view.set := by
  have hi : (i 0).val < 16384 := (i 0).isLt
  have hN : cfg0.N = 32 := by decide
  let t : Fin cfg0.N := ⟨(i 0).val / 512, by omega⟩
  refine ⟨t, flush0_6 t, ?_⟩
  have h := ((cfg0.win 6).blk t).view.emb_mem_set (ix2 ⟨(i 0).val % 512, Nat.mod_lt _ (by omega)⟩ (i 1) : S512x2048.Idx)
  have e : (ix2 (flatRow t ⟨(i 0).val % 512, Nat.mod_lt _ (by omega)⟩) (i 1) : S16384x2048.Idx) = i := by
    funext a; apply Fin.ext
    match a with
    | ⟨0, _⟩ => show 512 * ((i 0).val / 512) + (i 0).val % 512 = (i 0).val; omega
    | ⟨1, _⟩ => rfl
  exact (congrArg (· ∈ ((cfg0.win 6).blk t).view.set) ((emb6 t _ _).trans e)).mp h

/-- Every entry of the scales' array is written by some point. -/
theorem covered7 (i : S4x16x4096.Idx) : ∃ t : Fin cfg0.N, (cfg0.win 7).flush t = true ∧ i ∈ ((cfg0.win 7).blk t).view.set := by
  have h0 : (i 0).val < 4 := (i 0).isLt
  have h2 : (i 2).val < 4096 := (i 2).isLt
  have hN : cfg0.N = 32 := by decide
  let t : Fin cfg0.N := ⟨8 * (i 0).val + (i 2).val / 512, by omega⟩
  refine ⟨t, flush0_7 t, ?_⟩
  have h := ((cfg0.win 7).blk t).view.emb_mem_set (ix3 0 (i 1) ⟨(i 2).val % 512, Nat.mod_lt _ (by omega)⟩ : S1x16x512.Idx)
  have e : (ix3 (batch t) (i 1) (token t ⟨(i 2).val % 512, Nat.mod_lt _ (by omega)⟩) : S4x16x4096.Idx) = i := by
    funext a; apply Fin.ext
    match a with
    | ⟨0, _⟩ => show (8 * (i 0).val + (i 2).val / 512) / 8 = (i 0).val; omega
    | ⟨1, _⟩ => rfl
    | ⟨2, _⟩ => show 512 * ((8 * (i 0).val + (i 2).val / 512) % 8) + (i 2).val % 512 = (i 2).val; omega
  exact (congrArg (· ∈ ((cfg0.win 7).blk t).view.set) ((emb7 t _ _ _).trans e)).mp h

/-- After the region the codes' array holds the codes, and the scales' array the scales. -/
theorem array6 (c : Dev nD) : (dats m 0 c).arrAt 6 cfg0.N = codesArray m c :=
  (dats m 0 c).arrAt_eq_of_cover 6 (codesArray m c) (fun t _ => flushed6 m c t) covered6
theorem array7 (c : Dev nD) : (dats m 0 c).arrAt 7 cfg0.N = scalesArray m c :=
  (dats m 0 c).arrAt_eq_of_cover 7 (scalesArray m c) (fun t _ => flushed7 m c t) covered7

/-! ## After the lines that follow the region -/

/-- The codes as returned: the codes' array in three axes. -/
theorem result_codes (c : Dev nD) :
    Pipeline.afterTail₀ cfgs (dats m) 0 (V0 m) [hostOps1] c main_v5
      = Spec.layerCodes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e : Pipeline.afterTail₀ cfgs (dats m) 0 (V0 m) [hostOps1] c main_v5
      = shapeCast S4x4096x2048 (codesArray m c) shapeCasts_S16384x2048_S4x4096x2048 := by
    show StableHlo.after hostOps1 _ (Proc.devRef .tc main_v5) = _
    after_results
    rw [show Pipeline.withArrays (cfgs 0).spec c (V0 m c) (fun w => (dats m 0 c).arrAt w (cfgs 0).N) (Proc.devRef .tc main_v4_0) = codesArray m c from
      (Pipeline.withArrays_arr spec0 launch0.win.arr_inj c (V0 m c) (fun w => (dats m 0 c).arrAt w cfg0.N) 6).trans (array6 m c)]
    rfl
  rw [e]
  funext y
  have h0 : (y 0).val < 4 := (y 0).isLt
  have h1 : (y 1).val < 4096 := (y 1).isLt
  refine (shapeCast_apply (s := S16384x2048) (t := S4x4096x2048) _ _ y (ix2 ⟨4096 * (y 0).val + (y 1).val, by omega⟩ (y 2)) ?_).trans ?_
  · rw [Shape.rowMajor_val_three, Shape.rowMajor_val_two]
    show (4096 * (y 0).val + (y 1).val) * 2048 + (y 2).val = ((y 0).val * 4096 + (y 1).val) * 2048 + (y 2).val
    omega
  · have eb : (⟨(4096 * (y 0).val + (y 1).val) / 4096, by omega⟩ : Fin 4) = y 0 := Fin.ext (by show (4096 * (y 0).val + (y 1).val) / 4096 = (y 0).val; omega)
    have es : (⟨(4096 * (y 0).val + (y 1).val) % 4096, Nat.mod_lt _ (by omega)⟩ : Fin 4096) = y 1 :=
      Fin.ext (by show (4096 * (y 0).val + (y 1).val) % 4096 = (y 1).val; omega)
    show Spec.codes (argRow m c ⟨(4096 * (y 0).val + (y 1).val) / 4096, _⟩ ⟨(4096 * (y 0).val + (y 1).val) % 4096, _⟩) (y 2) = _
    rw [eb, es]
    rfl

/-- The scales as returned: tokens before groups. -/
theorem result_scales (c : Dev nD) :
    Pipeline.afterTail₀ cfgs (dats m) 0 (V0 m) [hostOps1] c main_v6
      = Spec.layerScales (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e : Pipeline.afterTail₀ cfgs (dats m) 0 (V0 m) [hostOps1] c main_v6
      = transpose S4x4096x16 [0, 2, 1] (scalesArray m c) transposes_S4x16x4096_S4x4096x16_0_2_1 := by
    show StableHlo.after hostOps1 _ (Proc.devRef .tc main_v6) = _
    after_results
    rw [show Pipeline.withArrays (cfgs 0).spec c (V0 m c) (fun w => (dats m 0 c).arrAt w (cfgs 0).N) (Proc.devRef .tc main_v4_1) = scalesArray m c from
      (Pipeline.withArrays_arr spec0 launch0.win.arr_inj c (V0 m c) (fun w => (dats m 0 c).arrAt w cfg0.N) 7).trans (array7 m c)]
  rw [e]
  funext y
  exact transpose_apply (s := S4x16x4096) (t := S4x4096x16) [0, 2, 1] _ _ y (ix3 (y 0) (y 2) (y 1)) (by intro a; fin_cases a <;> rfl)

/-- THE KERNEL'S RUN: the two results are the layer's codes and scales of the arguments, and the arguments are as launched. -/
theorem run : θ_run defs (onTc (τ := τ) (main (F := Ideal))) ⟨m, fun _ => 0, ρ⟩ fun r => ∀ c : Dev nD,
      r.2.mem ((c.tc : Thread nD τ).loc main_v5)
          = Spec.layerCodes (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v6)
          = Spec.layerScales (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h.1 c).2 main_v5 (Pipeline.mem_restRefs_of main_v5 (by decide) (by decide))).trans (result_codes m c),
        ((h.1 c).2 main_v6 (Pipeline.mem_restRefs_of main_v6 (by decide) (by decide))).trans (result_scales m c), h.2 c⟩)
    (θ_run_and (run_main m ρ) (unchanged m ρ))

end Cert.KernelIdeal.Run

end
-- ==== Proof.ReferenceRun.lean ====
/- THE REFERENCE'S RUN. One grid point whose blocks are the whole arrays: after the run each result array holds the body's value of the
   argument arrays, and the arguments are as launched. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

/-- Offsets of zero, written out. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x4096x3072.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 4096 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S4x4096x1.Idx) : ((cfg0.win 1).blk t).view.emb j = j := by
  obtain ⟨e0, e1, e2⟩ := idx_zero1 t
  funext a; apply Fin.ext
  match a with
  | ⟨0, _⟩ => show win0_1.index t (0 : Fin 3) * 4 + 1 * (j 0).val = (j 0).val; omega
  | ⟨1, _⟩ => show win0_1.index t (1 : Fin 3) * 4096 + 1 * (j 1).val = (j 1).val; omega
  | ⟨2, _⟩ => show win0_1.index t (2 : Fin 3) * 1 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3072x2048.Idx) : ((cfg0.win 2).blk t).view.emb j = j := by
  obtain ⟨e0, e1⟩ := idx_zero2 t
  funext a; apply Fin.ext
  match a with
  | ⟨0, _⟩ => show win0_2.index t (0 : Fin 2) * 3072 + 1 * (j 0).val = (j 0).val; omega
  | ⟨1, _⟩ => show win0_2.index t (1 : Fin 2) * 2048 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S2048.Idx) : ((cfg0.win 3).blk t).view.emb j = j := by
  have e0 := idx_zero3 t
  funext a; apply Fin.ext
  match a with
  | ⟨0, _⟩ => show win0_3.index t (0 : Fin 1) * 2048 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3072x2048.Idx) : ((cfg0.win 4).blk t).view.emb j = j := by
  obtain ⟨e0, e1⟩ := idx_zero4 t
  funext a; apply Fin.ext
  match a with
  | ⟨0, _⟩ => show win0_4.index t (0 : Fin 2) * 3072 + 1 * (j 0).val = (j 0).val; omega
  | ⟨1, _⟩ => show win0_4.index t (1 : Fin 2) * 2048 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S2048.Idx) : ((cfg0.win 5).blk t).view.emb j = j := by
  have e0 := idx_zero5 t
  funext a; apply Fin.ext
  match a with
  | ⟨0, _⟩ => show win0_5.index t (0 : Fin 1) * 2048 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x4096x2048.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 4096 + 1 * (j 1).val = (j 1).val; omega
  | ⟨2, _⟩ => show win0_6.index t (2 : Fin 3) * 2048 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S4x4096x16.Idx) : ((cfg0.win 7).blk t).view.emb j = j := by
  obtain ⟨e0, e1, e2⟩ := idx_zero7 t
  funext a; apply Fin.ext
  match a with
  | ⟨0, _⟩ => show win0_7.index t (0 : Fin 3) * 4 + 1 * (j 0).val = (j 0).val; omega
  | ⟨1, _⟩ => show win0_7.index t (1 : Fin 3) * 4096 + 1 * (j 1).val = (j 1).val; omega
  | ⟨2, _⟩ => show win0_7.index t (2 : Fin 3) * 16 + 1 * (j 2).val = (j 2).val; omega

/-! ### Output window 6: the array after the run -/

/-- What the window's array ends holding: the codes, as the body computes them from the argument arrays. -/
abbrev G6 (a0 : Vec F S4x4096x3072 .fp8e4m3) (a1 : Vec F S4x4096x1 .f32) (a2 : Vec F S3072x2048 .fp8e4m3) (a3 : Vec F S2048 .f32) (a4 : Vec F S3072x2048 .fp8e4m3) (a5 : Vec F S2048 .f32) : Vec F S4x4096x2048 .fp8e4m3 :=
  k0_pay2 (k0_pay4 a0 a1 a2 a4 a3 a5) (k0_pay8 a0 a1 a2 a3 a4 a5) (k0_pay9 a0 a1 a2 a3 a4 a5) (k0_pay10 a0 a1 a2 a3 a4 a5)

/-- A load of the whole of a block reads the block, and the one store through the whole rectangle leaves its payload. -/
theorem out6_eq (a0 : Vec F S4x4096x3072 .fp8e4m3) (a1 : Vec F S4x4096x1 .f32) (a2 : Vec F S3072x2048 .fp8e4m3) (a3 : Vec F S2048 .f32) (a4 : Vec F S3072x2048 .fp8e4m3) (a5 : Vec F S2048 .f32) : out0_6 (F := F) a0 a1 a2 a3 a4 a5 = G6 a0 a1 a2 a3 a4 a5 := by
  unfold out0_6
  rw [View.canon_unit_zero hz6, View.ld_unit_zero (S := S4x4096x3072) hz0 _ a0, View.ld_unit_zero (S := S4x4096x1) hz1 _ a1, View.ld_unit_zero (S := S3072x2048) hz2 _ a2, View.ld_unit_zero (S := S3072x2048) hz4 _ a4, View.ld_unit_zero (S := S2048) hz3 _ a3, View.ld_unit_zero (S := S2048) hz5 _ a5]

/-- Cutting the point's block out of `X` and reading `X` through the block's view give the same. -/
theorem cut6_eq (t : Fin cfg0.N) (X : Vec F S4x4096x2048 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S4x4096x2048.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: the scales, as the body computes them from the argument arrays. -/
abbrev G7 (a0 : Vec F S4x4096x3072 .fp8e4m3) (a1 : Vec F S4x4096x1 .f32) (a2 : Vec F S3072x2048 .fp8e4m3) (a3 : Vec F S2048 .f32) (a4 : Vec F S3072x2048 .fp8e4m3) (a5 : Vec F S2048 .f32) : Vec F S4x4096x16 .f32 :=
  k0_pay3 (k0_pay8 a0 a1 a2 a3 a4 a5) (k0_pay9 a0 a1 a2 a3 a4 a5) (k0_pay10 a0 a1 a2 a3 a4 a5)

/-- The one store through the whole rectangle leaves its payload. -/
theorem out7_eq (a0 : Vec F S4x4096x3072 .fp8e4m3) (a1 : Vec F S4x4096x1 .f32) (a2 : Vec F S3072x2048 .fp8e4m3) (a3 : Vec F S2048 .f32) (a4 : Vec F S3072x2048 .fp8e4m3) (a5 : Vec F S2048 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S4x4096x16 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S4x4096x16.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Run

end
-- ==== Proof.ReferenceValue.lean ====
/- WHAT THE REFERENCE COMPUTES. Its body's two values, entry by entry, over the extended reals: the codes and the scales of every
   token's hidden row. -/
module

public import proofs.«01_k».proof.Proof.ReferenceRun
public import proofs.«01_k».proof.Proof.Spec
public import Idealize.ShloMosaic.Lib.MatmulPlain

@[expose] public section

noncomputable section

namespace Cert.ReferenceIdeal.Value

open Cert.ReferenceIdeal Cert.ReferenceIdeal.Gen Idealize.ShloMosaic Idealize.ShloMosaic.TcCoe Idealize.ShloMosaic.ValueIdx

/-! ## The quantiser on groups, entry by entry -/

/-- A group's numbers: row `n`, group `k`. -/
abbrev group (h : FVec Ideal S16384x16x128 .f32) (n : Fin 16384) (k : Fin 16) : Fin 128 → EReal := fun l => h (ix3 n k l)

/-- The largest magnitude of each group, times 1/448. -/
def peaks (h : FVec Ideal S16384x16x128 .f32) : FVec Ideal S16384x16x1 .f32 :=
  mulf (shapeCast S16384x16x1 (multiReduction .maximumf [2] S16384x16 (absf h) 0xFF800000#32 reduces_S16384x16x128_S16384x16 (.inl rfl) rfl)
      shapeCasts_S16384x16_S16384x16x1) (broadcast S16384x16x1 (Scalar.ofBits .f32 0x3B124925#32))

/-- Where the fold over the last axis reads. -/
theorem lift_eq (n : Fin 16384) (k : Fin 16) (l : Fin 128) :
    Shape.Reduces.lift reduces_S16384x16x128_S16384x16 (ix2 n k) l = ix3 n k l := by
  funext a; fin_cases a <;> rfl

/-- The largest entry of each group. -/
theorem groupMax_apply (v : FVec Ideal S16384x16x128 .f32) (n : Fin 16384) (k : Fin 16) :
    (multiReduction .maximumf [2] S16384x16 v 0xFF800000#32 reduces_S16384x16x128_S16384x16 (.inl rfl) rfl : FVec Ideal S16384x16 .f32) (ix2 n k)
      = Finset.univ.fold max (Ideal.ofBits .f32 0xFF800000#32) (fun l : Fin 128 => v (ix3 n k l)) := by
  refine (Ideal.multiReduction_maximumf_single (s := S16384x16x128) (a := (2 : Fin 3)) _ _ _ _ _ _).trans ?_
  exact Finset.fold_congr fun l _ => congrArg v (lift_eq n k l)

/-- A group's number read through the reshape to a last axis of one. -/
theorem column_apply (v : FVec Ideal S16384x16 .f32) (n : Fin 16384) (k : Fin 16) (z : Fin 1) :
    shapeCast S16384x16x1 v shapeCasts_S16384x16_S16384x16x1 (ix3 n k z) = v (ix2 n k) := by
  refine shapeCast_apply (s := S16384x16) (t := S16384x16x1) _ _ _ (ix2 n k) ?_
  rw [Shape.rowMajor_val_two, Shape.rowMajor_val_three]
  show n.val * 16 + k.val = (n.val * 16 + k.val) * 1 + z.val
  omega

/-- It is the peak of the group's numbers. -/
theorem peaks_apply (h : FVec Ideal S16384x16x128 .f32) (n : Fin 16384) (k : Fin 16) (z : Fin 1) :
    peaks h (ix3 n k z) = Spec.peak (group h n k) := by
  have e : ∀ v : FVec Ideal S16384x16x1 .f32, (mulf v (broadcast S16384x16x1 (Scalar.ofBits .f32 0x3B124925#32)) : FVec Ideal S16384x16x1 .f32) (ix3 n k z)
      = v (ix3 n k z) * Ideal.ofBits .f32 0x3B124925#32 := fun _ => rfl
  have e' : ∀ l : Fin 128, (absf h : FVec Ideal S16384x16x128 .f32) (ix3 n k l) = max (h (ix3 n k l)) (-(h (ix3 n k l))) := fun _ => rfl
  unfold peaks Spec.peak
  rw [e, column_apply, groupMax_apply, funext e']

/-- The exponent before the two exceptions. -/
def rawExp (y : FVec Ideal S16384x16x1 .f32) : FVec Ideal S16384x16x1 .f32 :=
  addf (floor (divf (log y) (log (broadcast S16384x16x1 (Scalar.ofBits .f32 0x40000000#32))))) (broadcast S16384x16x1 (Scalar.ofBits .f32 0x3F800000#32))

/-- The first exception. -/
def tiny (y : FVec Ideal S16384x16x1 .f32) : IVec S16384x16x1 1 := cmpf .olt y (broadcast S16384x16x1 (Scalar.ofBits .f32 0x00800000#32))

/-- The exponent of each group. -/
theorem exponent_apply (y : FVec Ideal S16384x16x1 .f32) (j : S16384x16x1.Idx) :
    k0_pay1 y (rawExp y) (tiny y) j = Exponent.refExp (y j) := rfl

/-- The scale of each group is that of its numbers. -/
theorem scales_apply (h : FVec Ideal S16384x16x128 .f32) (n : Fin 16384) (k : Fin 16) (z : Fin 1) :
    (exp2 (k0_pay1 (peaks h) (rawExp (peaks h)) (tiny (peaks h))) : FVec Ideal S16384x16x1 .f32) (ix3 n k z) = Spec.scale (group h n k) := by
  have e : ∀ x : FVec Ideal S16384x16x1 .f32, (exp2 x : FVec Ideal S16384x16x1 .f32) (ix3 n k z) = Ideal.exp2 (x (ix3 n k z)) := fun _ => rfl
  rw [e, exponent_apply, peaks_apply]
  exact (Exponent.scale_agree _).1.symm

/-- The code of each number is that of its group's. -/
theorem codes_apply (h : FVec Ideal S16384x16x128 .f32) (x : FVec Ideal S16384x16x1 .f32) (n : Fin 16384) (k : Fin 16) (l : Fin 128) :
    truncf .fp8e4m3 (minimumf (broadcast S16384x16x128 (Scalar.ofBits .f32 0x43E00000#32))
      (maximumf (broadcast S16384x16x128 (Scalar.ofBits .f32 0xC3E00000#32)) (mulf h (broadcastTo S16384x16x128
        (exp2 (subf (broadcast S16384x16x1 (Scalar.ofBits .f32 0x00000000#32)) x)) broadcasts_S16384x16x1_S16384x16x128))))
      bitsLt_fp8e4m3_f32 (ix3 n k l)
      = Spec.clip (h (ix3 n k l) * Ideal.exp2 (Scalar.ofBits (F := Ideal) .f32 0x00000000#32 - x (ix3 n k 0))) := by
  have e : ∀ v : FVec Ideal S16384x16x128 .f32, truncf .fp8e4m3 (minimumf (broadcast S16384x16x128 (Scalar.ofBits .f32 0x43E00000#32))
      (maximumf (broadcast S16384x16x128 (Scalar.ofBits .f32 0xC3E00000#32)) v)) bitsLt_fp8e4m3_f32 (ix3 n k l)
        = Spec.clip (v (ix3 n k l)) := fun _ => rfl
  rw [e]
  refine congrArg Spec.clip (congrArg (h (ix3 n k l) * ·) ?_)
  exact broadcastTo_apply _ _ _ (ix3 n k 0) (by intro a; fin_cases a <;> rfl)

/-! ## The hidden rows -/

section Layer

variable (a0 : Vec Ideal S4x4096x3072 .fp8e4m3) (a1 : Vec Ideal S4x4096x1 .f32) (a2 : Vec Ideal S3072x2048 .fp8e4m3)
  (a3 : Vec Ideal S2048 .f32) (a4 : Vec Ideal S3072x2048 .fp8e4m3) (a5 : Vec Ideal S2048 .f32)

/-- Row `n` of the flattened tokens: its batch and its token. -/
abbrev batch (n : Fin 16384) : Fin 4 := ⟨n.val / 4096, by have := n.isLt; omega⟩
abbrev token (n : Fin 16384) : Fin 4096 := ⟨n.val % 4096, Nat.mod_lt _ (by omega)⟩

/-- A product of the flattened tokens with a weight matrix. -/
theorem product_apply (w : Vec Ideal S3072x2048 .fp8e4m3) (n : Fin 16384) (f : Fin 2048) :
    (matmul dot_S16384x3072_S3072x2048_S16384x2048_1_0_0_1_n_n none
      (extf .bf16 (shapeCast S16384x3072 a0 shapeCasts_S4x4096x3072_S16384x3072 : FVec Ideal S16384x3072 .fp8e4m3) bitsLt_fp8e4m3_bf16)
      (extf .bf16 (w : FVec Ideal S3072x2048 .fp8e4m3) bitsLt_fp8e4m3_bf16) (constant S16384x2048 .f32 0x00000000#32) : FVec Ideal S16384x2048 .f32) (ix2 n f)
      = ∑ d : Fin 3072, a0 (ix3 (batch n) (token n) d) * w (ix2 d f) := by
  refine (Ideal.matmul_plain_apply (M := 16384) (K := 3072) (N := 2048) none _ _ _ n f).trans ?_
  have h0 : (constant S16384x2048 .f32 0x00000000#32 : FVec Ideal S16384x2048 .f32) (ix2 n f) = 0 := Ideal.ofBits_zero_f32
  rw [h0, zero_add]
  refine Finset.sum_congr rfl fun d _ => congrArg (· * w (ix2 d f)) ?_
  refine (shapeCast_apply (s := S4x4096x3072) (t := S16384x3072) a0 shapeCasts_S4x4096x3072_S16384x3072 (ix2 n d) (ix3 (batch n) (token n) d) ?_)
  rw [Shape.rowMajor_val_two, Shape.rowMajor_val_three]
  show (n.val / 4096 * 4096 + n.val % 4096) * 3072 + d.val = n.val * 3072 + d.val
  omega

/-- The token's scale, spread over its row. -/
theorem tokenScale_apply (n : Fin 16384) (f : Fin 2048) :
    broadcastTo S16384x2048 (shapeCast S16384x1 a1 shapeCasts_S4x4096x1_S16384x1) broadcasts_S16384x1_S16384x2048 (ix2 n f)
      = a1 (ix3 (batch n) (token n) 0) := by
  refine (broadcastTo_apply _ _ _ (ix2 n 0) (by intro a; fin_cases a <;> rfl)).trans ?_
  refine shapeCast_apply (s := S4x4096x1) (t := S16384x1) a1 shapeCasts_S4x4096x1_S16384x1 (ix2 n 0) (ix3 (batch n) (token n) 0) ?_
  rw [Shape.rowMajor_val_two, Shape.rowMajor_val_three]
  show (n.val / 4096 * 4096 + n.val % 4096) * 1 + 0 = n.val * 1 + 0
  omega

/-- A column's scale, spread over the rows. -/
theorem columnScale_apply (w : Vec Ideal S2048 .f32) (n : Fin 16384) (f : Fin 2048) :
    broadcastTo S16384x2048 (shapeCast S1x2048 w shapeCasts_S2048_S1x2048) broadcasts_S1x2048_S16384x2048 (ix2 n f) = w (ix1 f) := by
  refine (broadcastTo_apply _ _ _ (ix2 0 f) (by intro a; fin_cases a <;> rfl)).trans ?_
  refine shapeCast_apply (s := S2048) (t := S1x2048) w shapeCasts_S2048_S1x2048 (ix2 0 f) (ix1 f) ?_
  rw [Shape.rowMajor_val_one, Shape.rowMajor_val_two]
  show f.val = 0 * 2048 + f.val
  omega

/-- The gated product, entry by entry. -/
theorem gated_apply (g u xs wg wu : FVec Ideal S16384x2048 .f32) (j : S16384x2048.Idx) :
    mulf (mulf (mulf (mulf g xs) wg) (logistic (mulf (mulf g xs) wg))) (mulf (mulf u xs) wu) j
      = Spec.gated (g j) (u j) (xs j) (wg j) (wu j) := rfl

/-- The hidden numbers in groups: row `n`, group `k`, place `l` is column `128 k + l` of the token's hidden row. -/
theorem hidden_apply (n : Fin 16384) (k : Fin 16) (l : Fin 128) :
    k0_pay4 a0 a1 a2 a4 a3 a5 (ix3 n k l) = Spec.layerRow a0 a1 a2 a3 a4 a5 (batch n) (token n) (Spec.column k l) := by
  unfold k0_pay4
  refine (shapeCast_apply (s := S16384x2048) (t := S16384x16x128) _ shapeCasts_S16384x2048_S16384x16x128 (ix3 n k l) (ix2 n (Spec.column k l)) ?_).trans ?_
  · rw [Shape.rowMajor_val_two, Shape.rowMajor_val_three]
    show n.val * 2048 + (128 * k.val + l.val) = (n.val * 16 + k.val) * 128 + l.val
    omega
  refine (gated_apply _ _ _ _ _ _).trans ?_
  rw [product_apply, product_apply, tokenScale_apply, columnScale_apply, columnScale_apply]
  rfl

/-- Each group's numbers are a group of columns of the token's hidden row. -/
theorem group_hidden (n : Fin 16384) (k : Fin 16) :
    group (k0_pay4 a0 a1 a2 a4 a3 a5) n k = fun l => Spec.layerRow a0 a1 a2 a3 a4 a5 (batch n) (token n) (Spec.column k l) :=
  funext fun l => hidden_apply a0 a1 a2 a3 a4 a5 n k l

/-! ## The loads of whole arrays -/

/-- The value that the body divides into exponents is the groups' peaks. -/
theorem pay8_eq : k0_pay8 a0 a1 a2 a3 a4 a5 = peaks (k0_pay4 a0 a1 a2 a4 a3 a5) := by
  unfold k0_pay8
  rw [View.ld_unit_zero (S := S4x4096x3072) Run.hz0 _ a0, View.ld_unit_zero (S := S4x4096x1) Run.hz1 _ a1, View.ld_unit_zero (S := S3072x2048) Run.hz2 _ a2, View.ld_unit_zero (S := S3072x2048) Run.hz4 _ a4, View.ld_unit_zero (S := S2048) Run.hz3 _ a3, View.ld_unit_zero (S := S2048) Run.hz5 _ a5]
  rfl

/-- The exponents before the exceptions. -/
theorem pay9_eq : k0_pay9 a0 a1 a2 a3 a4 a5 = rawExp (k0_pay8 a0 a1 a2 a3 a4 a5) := rfl

/-- The first exception's test. -/
theorem pay10_eq : k0_pay10 a0 a1 a2 a3 a4 a5 = tiny (k0_pay8 a0 a1 a2 a3 a4 a5) := rfl

/-! ## The two results -/

/-- THE REFERENCE'S CODES are the layer's codes. -/
theorem codes_eq : Run.G6 a0 a1 a2 a3 a4 a5 = Spec.layerCodes a0 a1 a2 a3 a4 a5 := by
  show k0_pay2 _ _ _ _ = _
  rw [pay9_eq, pay10_eq, pay8_eq]
  have eg := group_hidden a0 a1 a2 a3 a4 a5
  generalize k0_pay4 a0 a1 a2 a4 a3 a5 = h at eg ⊢
  funext y
  obtain ⟨b, s, f, rfl⟩ : ∃ (b : Fin 4) (s : Fin 4096) (f : Fin 2048), y = (ix3 b s f : S4x4096x2048.Idx) :=
    ⟨y 0, y 1, y 2, eq_ix3 (n0 := 4) (n1 := 4096) (n2 := 2048) y⟩
  have hb := b.isLt
  have hs := s.isLt
  have hf := f.isLt
  have eb : batch ⟨4096 * b.val + s.val, by omega⟩ = b := Fin.ext (by show (4096 * b.val + s.val) / 4096 = b.val; omega)
  have es : token ⟨4096 * b.val + s.val, by omega⟩ = s := Fin.ext (by show (4096 * b.val + s.val) % 4096 = s.val; omega)
  unfold k0_pay2
  refine (shapeCast_apply (s := S16384x16x128) (t := S4x4096x2048) _ shapeCasts_S16384x16x128_S4x4096x2048 (ix3 b s f)
    (ix3 ⟨4096 * b.val + s.val, by omega⟩ (Spec.groupOf f) (Spec.laneOf f)) ?_).trans ?_
  · rw [Shape.rowMajor_val_three, Shape.rowMajor_val_three]
    show ((4096 * b.val + s.val) * 16 + f.val / 128) * 128 + f.val % 128 = (b.val * 4096 + s.val) * 2048 + f.val
    omega
  refine (codes_apply h _ _ _ _).trans ?_
  rw [exponent_apply, peaks_apply, ← (Exponent.scale_agree _).2]
  have e := eg ⟨4096 * b.val + s.val, by omega⟩ (Spec.groupOf f)
  rw [eb, es] at e
  show Spec.code (group h ⟨4096 * b.val + s.val, _⟩ (Spec.groupOf f)) (Spec.laneOf f) = _
  rw [e]
  rfl

/-- THE REFERENCE'S SCALES are the layer's scales. -/
theorem scales_eq : Run.G7 a0 a1 a2 a3 a4 a5 = Spec.layerScales a0 a1 a2 a3 a4 a5 := by
  show k0_pay3 _ _ _ = _
  rw [pay9_eq, pay10_eq, pay8_eq]
  have eg := group_hidden a0 a1 a2 a3 a4 a5
  generalize k0_pay4 a0 a1 a2 a4 a3 a5 = h at eg ⊢
  funext y
  obtain ⟨b, s, k, rfl⟩ : ∃ (b : Fin 4) (s : Fin 4096) (k : Fin 16), y = (ix3 b s k : S4x4096x16.Idx) :=
    ⟨y 0, y 1, y 2, eq_ix3 (n0 := 4) (n1 := 4096) (n2 := 16) y⟩
  have hb := b.isLt
  have hs := s.isLt
  have eb : batch ⟨4096 * b.val + s.val, by omega⟩ = b := Fin.ext (by show (4096 * b.val + s.val) / 4096 = b.val; omega)
  have es : token ⟨4096 * b.val + s.val, by omega⟩ = s := Fin.ext (by show (4096 * b.val + s.val) % 4096 = s.val; omega)
  unfold k0_pay3
  refine (shapeCast_apply (s := S16384x16x1) (t := S4x4096x16) _ shapeCasts_S16384x16x1_S4x4096x16 (ix3 b s k)
    (ix3 ⟨4096 * b.val + s.val, by omega⟩ k 0) ?_).trans ?_
  · rw [Shape.rowMajor_val_three, Shape.rowMajor_val_three]
    show ((4096 * b.val + s.val) * 16 + k.val) * 1 + 0 = (b.val * 4096 + s.val) * 16 + k.val
    omega
  refine (scales_apply h _ _ _).trans ?_
  have e := eg ⟨4096 * b.val + s.val, by omega⟩ k
  rw [eb, es] at e
  rw [e]
  rfl

end Layer

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceValue
public import Idealize.ShloMosaic.Adequacy
public import Idealize.ShloMosaic.Init

@[expose] public section

noncomputable section

namespace Cert.Proof

open Idealize.ShloMosaic Idealize.SL.Sem

/-- Over the extended reals the kernel and the reference, on the same arguments, give the same codes and the same scales. -/
theorem algebraic : Cert.algebraic_KernelIdeal_ReferenceIdeal := by
  intro m g m' g' _ hargs
  refine ⟨_, _, Cert.KernelIdeal.Run.run m g, (θ_run Cert.ReferenceIdeal.defs _ _).mono (fun r h c => ?_) (Cert.ReferenceIdeal.Run.run m' g')⟩
  obtain ⟨h6, h7, hrest⟩ := h c
  obtain ⟨e0, e1, e2, e3, e4, e5⟩ := hargs c
  refine ⟨h6.trans ?_, h7.trans ?_, hrest⟩
  · refine (Cert.ReferenceIdeal.Value.codes_eq _ _ _ _ _ _).trans ?_
    rw [e0, e1, e2, e3, e4, e5]
  · refine (Cert.ReferenceIdeal.Value.scales_eq _ _ _ _ _ _).trans ?_
    rw [e0, e1, e2, e3, e4, e5]

/-- THE CLAIM: the three frames, the identity of the kernel and its ideal program, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
